-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x256 : Shape := ⟨3, ![16, 2048, 256]⟩
abbrev S16x2 : Shape := ⟨2, ![16, 2]⟩
abbrev S2x512 : Shape := ⟨2, ![2, 512]⟩
abbrev S512 : Shape := ⟨1, ![512]⟩
abbrev S512x256 : Shape := ⟨2, ![512, 256]⟩
abbrev S256 : Shape := ⟨1, ![256]⟩
abbrev S2046x256 : Shape := ⟨2, ![2046, 256]⟩
abbrev S1025x256 : Shape := ⟨2, ![1025, 256]⟩
abbrev S256x1 : Shape := ⟨2, ![256, 1]⟩
abbrev S1 : Shape := ⟨1, ![1]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x2 : S_.BroadcastsInDim S16x2 (![] : Fin 0 → Fin S16x2.rank)
  reducesTo_S16x2_S_d0_1 : S16x2.ReducesTo [0, 1] S_
  bcast_S_S2x512 : S_.BroadcastsInDim S2x512 (![] : Fin 0 → Fin S2x512.rank)
  reducesTo_S2x512_S_d0_1 : S2x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S2046x256 : S_.BroadcastsInDim S2046x256 (![] : Fin 0 → Fin S2046x256.rank)
  reducesTo_S2046x256_S_d0_1 : S2046x256.ReducesTo [0, 1] S_
  bcast_S_S1025x256 : S_.BroadcastsInDim S1025x256 (![] : Fin 0 → Fin S1025x256.rank)
  reducesTo_S1025x256_S_d0_1 : S1025x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S256x1 .f32) (main_arg12 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg11
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S256 .f32) (main_arg8 : FVec F S2046x256 .f32) (main_arg9 : FVec F S1025x256 .f32) (main_arg10 : FVec F S256 .f32) (main_arg11 : FVec F S256x1 .f32) (main_arg12 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S2046x256 .f32 := Host.absf main_arg8
  let main_cst_14 : FVec F S_ .f32 := constant S_ .f32 0x7F800000#32
  let main_v40 : FVec F S2046x256 .f32 := broadcastInDim S2046x256 ![] bcast_S_S2046x256 main_cst_14
  let main_v41 : IVec S2046x256 1 := cmpf .olt main_v39 main_v40
  let main_c_15 : IVec S_ 1 := constantI S_ 1 1#1
  let main_v42 : IVec S_ 1 := (fun x v => Host.reduce IntOp.andi x v reducesTo_S2046x256_S_d0_1 h_S_) main_v41 main_c_15
  let main_v43 : IVec S_ 1 := andi main_v38 main_v42
  let main_v44 : FVec F S1025x256 .f32 := Host.absf main_arg9
  let main_cst_16 : FVec F S_ .f32 := constant S_ .f32 0x7F800000#32
  let main_v45 : FVec F S1025x256 .f32 := broadcastInDim S1025x256 ![] bcast_S_S1025x256 main_cst_16
  let main_v46 : IVec S1025x256 1 := cmpf .olt main_v44 main_v45
  let main_c_17 : IVec S_ 1 := constantI S_ 1 1#1
  let main_v47 : IVec S_ 1 := (fun x v => Host.reduce IntOp.andi x v reducesTo_S1025x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S2046x256 .f32) (main_arg9 : FVec F S1025x256 .f32) (main_arg10 : FVec F S256 .f32) (main_arg11 : FVec F S256x1 .f32) (main_arg12 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x2048x256 .f32) (main_arg1 : FVec F S16x2 .f32) (main_arg2 : FVec F S2x512 .f32) (main_arg3 : FVec F S512 .f32) (main_arg4 : FVec F S512x256 .f32) (main_arg5 : FVec F S256 .f32) (main_arg6 : FVec F S512x256 .f32) (main_arg7 : FVec F S256 .f32) (main_arg8 : FVec F S2046x256 .f32) (main_arg9 : FVec F S1025x256 .f32) (main_arg10 : FVec F S256 .f32) (main_arg11 : FVec F S256x1 .f32) (main_arg12 : FVec F S1 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2 .f32 := Host.absf main_arg1
  let main_cst_0 : FVec F S_ .f32 := constant S_ .f32 0x7F800000#32
  let main_v5 : FVec F S16x2 .f32 := broadcastInDim S16x2 ![] bcast_S_S16x2 main_cst_0
  let main_v6 : IVec S16x2 1 := cmpf .olt main_v4 main_v5
  let main_c_1 : IVec S_ 1 := constantI S_ 1 1#1
  let main_v7 : IVec S_ 1 := (fun x v => Host.reduce IntOp.andi x v reducesTo_S16x2_S_d0_1 h_S_) main_v6 main_c_1
  let main_v8 : IVec S_ 1 := andi main_v3 main_v7
  let main_v9 : FVec F S2x512 .f32 := Host.absf main_arg2
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S16x2048x256 : Shape := ⟨3, ![16, 2048, 256]⟩
abbrev S16x2 : Shape := ⟨2, ![16, 2]⟩
abbrev S2x512 : Shape := ⟨2, ![2, 512]⟩
abbrev S512 : Shape := ⟨1, ![512]⟩
abbrev S512x256 : Shape := ⟨2, ![512, 256]⟩
abbrev S256 : Shape := ⟨1, ![256]⟩
abbrev S2046x256 : Shape := ⟨2, ![2046, 256]⟩
abbrev S1025x256 : Shape := ⟨2, ![1025, 256]⟩
abbrev S256x1 : Shape := ⟨2, ![256, 1]⟩
abbrev S1 : Shape := ⟨1, ![1]⟩
abbrev S256x256 : Shape := ⟨2, ![256, 256]⟩
abbrev S1x256 : Shape := ⟨2, ![1, 256]⟩
abbrev S_ : Shape := ⟨0, ![]⟩
abbrev S2 : Shape := ⟨1, ![2]⟩
abbrev S1x1 : Shape := ⟨2, ![1, 1]⟩
abbrev S16x2046 : Shape := ⟨2, ![16, 2046]⟩
abbrev S16x2048 : Shape := ⟨2, ![16, 2048]⟩
abbrev S2048x256 : Shape := ⟨2, ![2048, 256]⟩
abbrev S1x512 : Shape := ⟨2, ![1, 512]⟩
abbrev S16x16 : Shape := ⟨2, ![16, 16]⟩
abbrev S16x256x256 : Shape := ⟨3, ![16, 256, 256]⟩
abbrev S16x256 : Shape := ⟨2, ![16, 256]⟩
abbrev S16x512 : Shape := ⟨2, ![16, 512]⟩
abbrev S4096x256 : Shape := ⟨2, ![4096, 256]⟩
abbrev S16x1x256 : Shape := ⟨3, ![16, 1, 256]⟩
abbrev S1x256x256 : Shape := ⟨3, ![1, 256, 256]⟩
abbrev S1x1x256 : Shape := ⟨3, ![1, 1, 256]⟩
abbrev S4096x1 : Shape := ⟨2, ![4096, 1]⟩
abbrev S16 : Shape := ⟨1, ![16]⟩
abbrev S16x1 : Shape := ⟨2, ![16, 1]⟩

abbrev nBuf : Space → Nat
  | .hbm => 319
  | .vmem => 23
  | .smem => 0
  | _ => 0

abbrev hbmTy0_0 (i : Nat) : BufTy := match i % 128 with
  | 0 => ⟨S16x2048x256, .f32⟩
  | 1 => ⟨S16x2, .f32⟩
  | 2 => ⟨S2x512, .f32⟩
  | 3 => ⟨S512, .f32⟩
  | 4 => ⟨S512x256, .f32⟩
  | 5 => ⟨S256, .f32⟩
  | 6 => ⟨S512x256, .f32⟩
  | 7 => ⟨S256, .f32⟩
  | 8 => ⟨S2046x256, .f32⟩
  | 9 => ⟨S1025x256, .f32⟩
  | 10 => ⟨S256, .f32⟩
  | 11 => ⟨S256x1, .f32⟩
  | 12 => ⟨S1, .f32⟩
  | 13 => ⟨S256x256, .f32⟩
  | 14 => ⟨S256x256, .f32⟩
  | 15 => ⟨S256x256, .f32⟩
  | 16 => ⟨S256x256, .f32⟩
  | 17 => ⟨S1x256, .f32⟩
  | 18 => ⟨S256, .f32⟩
  | 19 => ⟨S256x256, .f32⟩
  | 20 => ⟨S_, .f32⟩
  | 21 => ⟨S256x1, .f32⟩
  | 22 => ⟨S1x256, .f32⟩
  | 23 => ⟨S256x256, .f32⟩
  | 24 => ⟨S256x256, .f32⟩
  | 25 => ⟨S256x256, .f32⟩
  | 26 => ⟨S256x256, .f32⟩
  | 27 => ⟨S256x256, .f32⟩
  | 28 => ⟨S256x256, .f32⟩
  | 29 => ⟨S256x256, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S1x1, .f32⟩
  | 44 => ⟨S1x1, .f32⟩
  | 45 => ⟨S1, .i32⟩
  | 46 => ⟨S_, .i32⟩
  | 47 => ⟨S1, .i32⟩
  | 48 => ⟨S_, .i32⟩
  | 49 => ⟨S16x2046, .i64⟩
  | 50 => ⟨S16x2046, .i64⟩
  | 51 => ⟨S_, .i64⟩
  | 52 => ⟨S16x2046, .i64⟩
  | 53 => ⟨S16x2046, .i64⟩
  | 54 => ⟨S_, .i64⟩
  | 55 => ⟨S16x2046, .i64⟩
  | 56 => ⟨S16x2046, .i64⟩
  | 57 => ⟨S16x2046, .i64⟩
  | 58 => ⟨S_, .i64⟩
  | 59 => ⟨S16x2046, .i64⟩
  | 60 => ⟨S16x2046, .i64⟩
  | 61 => ⟨S16x2046, .i32⟩
  | 62 => ⟨S16x2046, .i32⟩
  | 63 => ⟨S_, .i32⟩
  | 64 => ⟨S_, .i32⟩
  | 65 => ⟨S_, .i32⟩
  | 66 => ⟨S16x2046, .i32⟩
  | 67 => ⟨S16x2046, .i32⟩
  | 68 => ⟨S16x2046, .i32⟩
  | 69 => ⟨S16x2046, .i32⟩
  | 70 => ⟨S16x2046, .i32⟩
  | 71 => ⟨S_, .i32⟩
  | 72 => ⟨S16x2046, .i32⟩
  | 73 => ⟨S16x2046, .i32⟩
  | 74 => ⟨S_, .i32⟩
  | 75 => ⟨S16x2046, .i32⟩
  | 76 => ⟨S16x2046, .i32⟩
  | 77 => ⟨S16x2046, .i32⟩
  | 78 => ⟨S16x2046, .i32⟩
  | 79 => ⟨S16x2046, .i32⟩
  | 80 => ⟨S_, .i32⟩
  | 81 => ⟨S16x2046, .i32⟩
  | 82 => ⟨S16x2046, .i32⟩
  | 83 => ⟨S_, .i32⟩
  | 84 => ⟨S16x2046, .i32⟩
  | 85 => ⟨S16x2046, .i32⟩
  | 86 => ⟨S16x2046, .i32⟩
  | 87 => ⟨S16x2046, .i32⟩
  | 88 => ⟨S16x2046, .i32⟩
  | 89 => ⟨S_, .i32⟩
  | 90 => ⟨S16x2046, .i32⟩
  | 91 => ⟨S16x2046, .i32⟩
  | 92 => ⟨S_, .i32⟩
  | 93 => ⟨S16x2046, .i32⟩
  | 94 => ⟨S16x2046, .i32⟩
  | 95 => ⟨S16x2046, .i32⟩
  | 96 => ⟨S16x2046, .i32⟩
  | 97 => ⟨S16x2046, .i32⟩
  | 98 => ⟨S_, .i32⟩
  | 99 => ⟨S16x2046, .i32⟩
  | 100 => ⟨S16x2046, .i32⟩
  | 101 => ⟨S_, .i32⟩
  | 102 => ⟨S16x2046, .i32⟩
  | 103 => ⟨S16x2046, .i32⟩
  | 104 => ⟨S16x2046, .i32⟩
  | 105 => ⟨S16x2046, .i32⟩
  | 106 => ⟨S16x2046, .i32⟩
  | 107 => ⟨S16x2046, .i32⟩
  | 108 => ⟨S16x2046, .i32⟩
  | 109 => ⟨S16x2046, .i32⟩
  | 110 => ⟨S_, .i32⟩
  | 111 => ⟨S16x2046, .i32⟩
  | 112 => ⟨S16x2046, .i32⟩
  | 113 => ⟨S16x2046, .i32⟩
  | 114 => ⟨S_, .i32⟩
  | 115 => ⟨S16x2046, .i32⟩
  | 116 => ⟨S16x2046, .i32⟩
  | 117 => ⟨S_, .i32⟩
  | 118 => ⟨S16x2046, .i32⟩
  | 119 => ⟨S16x2046, .i32⟩
  | 120 => ⟨S16x2046, .i32⟩
  | 121 => ⟨S16x2046, .i32⟩
  | 122 => ⟨S16x2046, .i32⟩
  | 123 => ⟨S_, .i32⟩
  | 124 => ⟨S16x2046, .i32⟩
  | 125 => ⟨S16x2046, .i32⟩
  | 126 => ⟨S_, .i32⟩
  | 127 => ⟨S16x2046, .i32⟩
  | _ => ⟨S16x2048x256, .f32⟩

abbrev hbmTy0_1 (i : Nat) : BufTy := match i % 128 with
  | 0 => ⟨S16x2046, .i32⟩
  | 1 => ⟨S16x2046, .i32⟩
  | 2 => ⟨S16x2046, .i32⟩
  | 3 => ⟨S16x2046, .i32⟩
  | 4 => ⟨S_, .i32⟩
  | 5 => ⟨S16x2046, .i32⟩
  | 6 => ⟨S16x2046, .i32⟩
  | 7 => ⟨S_, .i32⟩
  | 8 => ⟨S16x2046, .i32⟩
  | 9 => ⟨S16x2046, .i32⟩
  | 10 => ⟨S16x2046, .i32⟩
  | 11 => ⟨S16x2046, .i32⟩
  | 12 => ⟨S16x2046, .i32⟩
  | 13 => ⟨S_, .i32⟩
  | 14 => ⟨S16x2046, .i32⟩
  | 15 => ⟨S16x2046, .i32⟩
  | 16 => ⟨S_, .i32⟩
  | 17 => ⟨S16x2046, .i32⟩
  | 18 => ⟨S16x2046, .i32⟩
  | 19 => ⟨S16x2046, .i32⟩
  | 20 => ⟨S16x2046, .i32⟩
  | 21 => ⟨S16x2046, .i32⟩
  | 22 => ⟨S16x2046, .i32⟩
  | 23 => ⟨S16x2046, .i32⟩
  | 24 => ⟨S16x2046, .i32⟩
  | 25 => ⟨S_, .i32⟩
  | 26 => ⟨S16x2046, .i32⟩
  | 27 => ⟨S16x2046, .i32⟩
  | 28 => ⟨S16x2046, .i32⟩
  | 29 => ⟨S_, .i32⟩
  | 30 => ⟨S16x2046, .i32⟩
  | 31 => ⟨S16x2046, .i32⟩
  | 32 => ⟨S_, .i32⟩
  | 33 => ⟨S16x2046, .i32⟩
  | 34 => ⟨S16x2046, .i32⟩
  | 35 => ⟨S16x2046, .i32⟩
  | 36 => ⟨S16x2046, .i32⟩
  | 37 => ⟨S16x2046, .i32⟩
  | 38 => ⟨S_, .i32⟩
  | 39 => ⟨S16x2046, .i32⟩
  | 40 => ⟨S16x2046, .i32⟩
  | 41 => ⟨S_, .i32⟩
  | 42 => ⟨S16x2046, .i32⟩
  | 43 => ⟨S16x2046, .i32⟩
  | 44 => ⟨S16x2046, .i32⟩
  | 45 => ⟨S16x2046, .i32⟩
  | 46 => ⟨S16x2046, .i32⟩
  | 47 => ⟨S_, .i32⟩
  | 48 => ⟨S16x2046, .i32⟩
  | 49 => ⟨S16x2046, .i32⟩
  | 50 => ⟨S_, .i32⟩
  | 51 => ⟨S16x2046, .i32⟩
  | 52 => ⟨S16x2046, .i32⟩
  | 53 => ⟨S16x2046, .i32⟩
  | 54 => ⟨S16x2046, .i32⟩
  | 55 => ⟨S16x2046, .i32⟩
  | 56 => ⟨S_, .i32⟩
  | 57 => ⟨S16x2046, .i32⟩
  | 58 => ⟨S16x2046, .i32⟩
  | 59 => ⟨S_, .i32⟩
  | 60 => ⟨S16x2046, .i32⟩
  | 61 => ⟨S16x2046, .i32⟩
  | 62 => ⟨S16x2046, .i32⟩
  | 63 => ⟨S16x2046, .i32⟩
  | 64 => ⟨S16x2046, .i32⟩
  | 65 => ⟨S16x2046, .i32⟩
  | 66 => ⟨S16x2046, .i32⟩
  | 67 => ⟨S16x2046, .i32⟩
  | 68 => ⟨S_, .i32⟩
  | 69 => ⟨S16x2046, .i32⟩
  | 70 => ⟨S16x2046, .i32⟩
  | 71 => ⟨S16x2046, .i32⟩
  | 72 => ⟨S_, .i32⟩
  | 73 => ⟨S16x2046, .i32⟩
  | 74 => ⟨S16x2046, .i32⟩
  | 75 => ⟨S_, .i32⟩
  | 76 => ⟨S16x2046, .i32⟩
  | 77 => ⟨S16x2046, .i32⟩
  | 78 => ⟨S16x2046, .i32⟩
  | 79 => ⟨S16x2046, .i32⟩
  | 80 => ⟨S16x2046, .i32⟩
  | 81 => ⟨S_, .i32⟩
  | 82 => ⟨S16x2046, .i32⟩
  | 83 => ⟨S16x2046, .i32⟩
  | 84 => ⟨S_, .i32⟩
  | 85 => ⟨S16x2046, .i32⟩
  | 86 => ⟨S16x2046, .i32⟩
  | 87 => ⟨S16x2046, .i32⟩
  | 88 => ⟨S16x2046, .i32⟩
  | 89 => ⟨S16x2046, .i32⟩
  | 90 => ⟨S_, .i32⟩
  | 91 => ⟨S16x2046, .i32⟩
  | 92 => ⟨S16x2046, .i32⟩
  | 93 => ⟨S_, .i32⟩
  | 94 => ⟨S16x2046, .i32⟩
  | 95 => ⟨S16x2046, .i32⟩
  | 96 => ⟨S16x2046, .i32⟩
  | 97 => ⟨S16x2046, .i32⟩
  | 98 => ⟨S16x2046, .i32⟩
  | 99 => ⟨S_, .i32⟩
  | 100 => ⟨S16x2046, .i32⟩
  | 101 => ⟨S16x2046, .i32⟩
  | 102 => ⟨S_, .i32⟩
  | 103 => ⟨S16x2046, .i32⟩
  | 104 => ⟨S16x2046, .i32⟩
  | 105 => ⟨S16x2046, .i32⟩
  | 106 => ⟨S16x2046, .i32⟩
  | 107 => ⟨S16x2046, .i32⟩
  | 108 => ⟨S16x2046, .i32⟩
  | 109 => ⟨S16x2046, .i32⟩
  | 110 => ⟨S16x2046, .i32⟩
  | 111 => ⟨S_, .i32⟩
  | 112 => ⟨S16x2046, .i32⟩
  | 113 => ⟨S16x2046, .i32⟩
  | 114 => ⟨S16x2046, .i32⟩
  | 115 => ⟨S_, .i32⟩
  | 116 => ⟨S16x2046, .i32⟩
  | 117 => ⟨S16x2046, .i32⟩
  | 118 => ⟨S_, .i32⟩
  | 119 => ⟨S16x2046, .i32⟩
  | 120 => ⟨S16x2046, .i32⟩
  | 121 => ⟨S16x2046, .i32⟩
  | 122 => ⟨S16x2046, .i32⟩
  | 123 => ⟨S16x2046, .i32⟩
  | 124 => ⟨S_, .i32⟩
  | 125 => ⟨S16x2046, .i32⟩
  | 126 => ⟨S16x2046, .i32⟩
  | 127 => ⟨S_, .i32⟩
  | _ => ⟨S16x2048x256, .f32⟩

abbrev hbmTy0_2 (i : Nat) : BufTy := match i % 128 with
  | 0 => ⟨S16x2046, .i32⟩
  | 1 => ⟨S16x2046, .i32⟩
  | 2 => ⟨S16x2046, .i32⟩
  | 3 => ⟨S16x2046, .i32⟩
  | 4 => ⟨S16x2046, .i32⟩
  | 5 => ⟨S_, .i32⟩
  | 6 => ⟨S16x2046, .i32⟩
  | 7 => ⟨S16x2046, .i32⟩
  | 8 => ⟨S_, .i32⟩
  | 9 => ⟨S16x2046, .i32⟩
  | 10 => ⟨S16x2046, .i32⟩
  | 11 => ⟨S16x2046, .i32⟩
  | 12 => ⟨S16x2046, .i32⟩
  | 13 => ⟨S16x2046, .i32⟩
  | 14 => ⟨S_, .i32⟩
  | 15 => ⟨S16x2046, .i32⟩
  | 16 => ⟨S16x2046, .i32⟩
  | 17 => ⟨S_, .i32⟩
  | 18 => ⟨S16x2046, .i32⟩
  | 19 => ⟨S16x2046, .i32⟩
  | 20 => ⟨S16x2046, .i32⟩
  | 21 => ⟨S16x2046, .i32⟩
  | 22 => ⟨S16x2046, .i32⟩
  | 23 => ⟨S16x2046, .i32⟩
  | 24 => ⟨S16x2046, .i32⟩
  | 25 => ⟨S16x2046, .i32⟩
  | 26 => ⟨S_, .i32⟩
  | 27 => ⟨S16x2046, .i32⟩
  | 28 => ⟨S16x2046, .i32⟩
  | 29 => ⟨S16x2046, .i32⟩
  | 30 => ⟨S_, .i32⟩
  | 31 => ⟨S16x2046, .i32⟩
  | 32 => ⟨S16x2046, .i32⟩
  | 33 => ⟨S_, .i32⟩
  | 34 => ⟨S16x2046, .i32⟩
  | 35 => ⟨S16x2046, .i32⟩
  | 36 => ⟨S16x2046, .f32⟩
  | 37 => ⟨S_, .f32⟩
  | 38 => ⟨S16x2046, .f32⟩
  | 39 => ⟨S16x2046, .f32⟩
  | 40 => ⟨S1x1, .f32⟩
  | 41 => ⟨S16x2046, .f32⟩
  | 42 => ⟨S16x2046, .f32⟩
  | 43 => ⟨S16x2046, .f32⟩
  | 44 => ⟨S16x2046, .f32⟩
  | 45 => ⟨S16x2046, .f32⟩
  | 46 => ⟨S16x2046, .f32⟩
  | 47 => ⟨S16x2046, .f32⟩
  | 48 => ⟨S16x2046, .f32⟩
  | 49 => ⟨S16x2046, .f32⟩
  | 50 => ⟨S16x2046, .f32⟩
  | 51 => ⟨S_, .f32⟩
  | 52 => ⟨S_, .f32⟩
  | 53 => ⟨S16x2048, .f32⟩
  | 54 => ⟨S_, .i32⟩
  | 55 => ⟨S_, .f32⟩
  | 56 => ⟨S2048x256, .f32⟩
  | 57 => ⟨S1x512, .f32⟩
  | 58 => ⟨S1x256, .f32⟩
  | 59 => ⟨S1x256, .f32⟩
  | 60 => ⟨S1x1, .f32⟩
  | 61 => ⟨S1x256, .f32⟩
  | 62 => ⟨S16x16, .i32⟩
  | _ => ⟨S16x2048x256, .f32⟩

abbrev hbmTy (i : Nat) : BufTy := match i / 128 with
  | 0 => hbmTy0_0 i
  | 1 => hbmTy0_1 i
  | 2 => hbmTy0_2 i
  | _ => ⟨S16x2048x256, .f32⟩

abbrev bufTy : (tb : Table) → Fin (tcTables nBuf tb) → BufTy
  | .hbm, ⟨i, _⟩ => hbmTy i
  | .local _ .vmem, ⟨0, _⟩ => ⟨S16x2, .f32⟩
  | .local _ .vmem, ⟨1, _⟩ => ⟨S2x512, .f32⟩
  | .local _ .vmem, ⟨2, _⟩ => ⟨S1x512, .f32⟩
  | .local _ .vmem, ⟨3, _⟩ => ⟨S512x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S1x1, .f32⟩
  | .local _ .vmem, ⟨8, _⟩ => ⟨S16x256x256, .f32⟩
  | .local _ .vmem, ⟨9, _⟩ => ⟨S16x256x256, .f32⟩
  | .local _ .vmem, ⟨10, _⟩ => ⟨S256x256, .f32⟩
  | .local _ .vmem, ⟨11, _⟩ => ⟨S256x256, .f32⟩
  | .local _ .vmem, ⟨12, _⟩ => ⟨S16x256, .f32⟩
  | .local _ .vmem, ⟨13, _⟩ => ⟨S16x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S1x256, .f32⟩
  | .local _ .vmem, ⟨19, _⟩ => ⟨S256x1, .f32⟩
  | .local _ .vmem, ⟨20, _⟩ => ⟨S16x16, .i32⟩
  | .local _ .vmem, ⟨21, _⟩ => ⟨S16x256, .f32⟩
  | .local _ .vmem, ⟨22, _⟩ => ⟨S16x2048, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_cst_0 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_c_0 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_1 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_call0_v0 : Ref sig .tc := ⟨.hbm, 63, rfl⟩
abbrev main_call0_call0_call0_c : Ref sig .tc := ⟨.hbm, 64, rfl⟩
abbrev main_call0_call0_call0_v1 : Ref sig .tc := ⟨.hbm, 65, rfl⟩
abbrev main_call0_call0_call0_v2 : Ref sig .tc := ⟨.hbm, 66, rfl⟩
abbrev main_call0_call0_call0_v3 : Ref sig .tc := ⟨.hbm, 67, rfl⟩
abbrev main_call0_call0_call0_v4 : Ref sig .tc := ⟨.hbm, 68, rfl⟩
abbrev main_call0_call0_call0_v5 : Ref sig .tc := ⟨.hbm, 69, rfl⟩
abbrev main_call0_call0_call0_v6 : Ref sig .tc := ⟨.hbm, 70, rfl⟩
abbrev main_call0_call0_call0_c_0 : Ref sig .tc := ⟨.hbm, 71, rfl⟩
abbrev main_call0_call0_call0_v7 : Ref sig .tc := ⟨.hbm, 72, rfl⟩
abbrev main_call0_call0_call0_v8 : Ref sig .tc := ⟨.hbm, 73, rfl⟩
abbrev main_call0_call0_call0_c_1 : Ref sig .tc := ⟨.hbm, 74, rfl⟩
abbrev main_call0_call0_call0_v9 : Ref sig .tc := ⟨.hbm, 75, rfl⟩
abbrev main_call0_call0_call0_v10 : Ref sig .tc := ⟨.hbm, 76, rfl⟩
abbrev main_call0_call0_call0_v11 : Ref sig .tc := ⟨.hbm, 77, rfl⟩
abbrev main_call0_call0_call0_v12 : Ref sig .tc := ⟨.hbm, 78, rfl⟩
abbrev main_call0_call0_call0_v13 : Ref sig .tc := ⟨.hbm, 79, rfl⟩
abbrev main_call0_call0_call0_c_2 : Ref sig .tc := ⟨.hbm, 80, rfl⟩
abbrev main_call0_call0_call0_v14 : Ref sig .tc := ⟨.hbm, 81, rfl⟩
abbrev main_call0_call0_call0_v15 : Ref sig .tc := ⟨.hbm, 82, rfl⟩
abbrev main_call0_call0_call0_c_3 : Ref sig .tc := ⟨.hbm, 83, rfl⟩
abbrev main_call0_call0_call0_v16 : Ref sig .tc := ⟨.hbm, 84, rfl⟩
abbrev main_call0_call0_call0_v17 : Ref sig .tc := ⟨.hbm, 85, rfl⟩
abbrev main_call0_call0_call0_v18 : Ref sig .tc := ⟨.hbm, 86, rfl⟩
abbrev main_call0_call0_call0_v19 : Ref sig .tc := ⟨.hbm, 87, rfl⟩
abbrev main_call0_call0_call0_v20 : Ref sig .tc := ⟨.hbm, 88, rfl⟩
abbrev main_call0_call0_call0_c_4 : Ref sig .tc := ⟨.hbm, 89, rfl⟩
abbrev main_call0_call0_call0_v21 : Ref sig .tc := ⟨.hbm, 90, rfl⟩
abbrev main_call0_call0_call0_v22 : Ref sig .tc := ⟨.hbm, 91, rfl⟩
abbrev main_call0_call0_call0_c_5 : Ref sig .tc := ⟨.hbm, 92, rfl⟩
abbrev main_call0_call0_call0_v23 : Ref sig .tc := ⟨.hbm, 93, rfl⟩
abbrev main_call0_call0_call0_v24 : Ref sig .tc := ⟨.hbm, 94, rfl⟩
abbrev main_call0_call0_call0_v25 : Ref sig .tc := ⟨.hbm, 95, rfl⟩
abbrev main_call0_call0_call0_v26 : Ref sig .tc := ⟨.hbm, 96, rfl⟩
abbrev main_call0_call0_call0_v27 : Ref sig .tc := ⟨.hbm, 97, rfl⟩
abbrev main_call0_call0_call0_c_6 : Ref sig .tc := ⟨.hbm, 98, rfl⟩
abbrev main_call0_call0_call0_v28 : Ref sig .tc := ⟨.hbm, 99, rfl⟩
abbrev main_call0_call0_call0_v29 : Ref sig .tc := ⟨.hbm, 100, rfl⟩
abbrev main_call0_call0_call0_c_7 : Ref sig .tc := ⟨.hbm, 101, rfl⟩
abbrev main_call0_call0_call0_v30 : Ref sig .tc := ⟨.hbm, 102, rfl⟩
abbrev main_call0_call0_call0_v31 : Ref sig .tc := ⟨.hbm, 103, rfl⟩
abbrev main_call0_call0_call0_v32 : Ref sig .tc := ⟨.hbm, 104, rfl⟩
abbrev main_call0_call0_call0_v33 : Ref sig .tc := ⟨.hbm, 105, rfl⟩
abbrev main_call0_call0_call0_v34 : Ref sig .tc := ⟨.hbm, 106, rfl⟩
abbrev main_call0_call0_call0_v35 : Ref sig .tc := ⟨.hbm, 107, rfl⟩
abbrev main_call0_call0_call0_v36 : Ref sig .tc := ⟨.hbm, 108, rfl⟩
abbrev main_call0_call0_call0_v37 : Ref sig .tc := ⟨.hbm, 109, rfl⟩
abbrev main_call0_call0_call0_c_8 : Ref sig .tc := ⟨.hbm, 110, rfl⟩
abbrev main_call0_call0_call0_v38 : Ref sig .tc := ⟨.hbm, 111, rfl⟩
abbrev main_call0_call0_call0_v39 : Ref sig .tc := ⟨.hbm, 112, rfl⟩
abbrev main_call0_call0_call0_v40 : Ref sig .tc := ⟨.hbm, 113, rfl⟩
abbrev main_call0_call0_call0_c_9 : Ref sig .tc := ⟨.hbm, 114, rfl⟩
abbrev main_call0_call0_call0_v41 : Ref sig .tc := ⟨.hbm, 115, rfl⟩
abbrev main_call0_call0_call0_v42 : Ref sig .tc := ⟨.hbm, 116, rfl⟩
abbrev main_call0_call0_call0_c_10 : Ref sig .tc := ⟨.hbm, 117, rfl⟩
abbrev main_call0_call0_call0_v43 : Ref sig .tc := ⟨.hbm, 118, rfl⟩
abbrev main_call0_call0_call0_v44 : Ref sig .tc := ⟨.hbm, 119, rfl⟩
abbrev main_call0_call0_call0_v45 : Ref sig .tc := ⟨.hbm, 120, rfl⟩
abbrev main_call0_call0_call0_v46 : Ref sig .tc := ⟨.hbm, 121, rfl⟩
abbrev main_call0_call0_call0_v47 : Ref sig .tc := ⟨.hbm, 122, rfl⟩
abbrev main_call0_call0_call0_c_11 : Ref sig .tc := ⟨.hbm, 123, rfl⟩
abbrev main_call0_call0_call0_v48 : Ref sig .tc := ⟨.hbm, 124, rfl⟩
abbrev main_call0_call0_call0_v49 : Ref sig .tc := ⟨.hbm, 125, rfl⟩
abbrev main_call0_call0_call0_c_12 : Ref sig .tc := ⟨.hbm, 126, rfl⟩
abbrev main_call0_call0_call0_v50 : Ref sig .tc := ⟨.hbm, 127, rfl⟩
abbrev main_call0_call0_call0_v51 : Ref sig .tc := ⟨.hbm, 128, rfl⟩
abbrev main_call0_call0_call0_v52 : Ref sig .tc := ⟨.hbm, 129, rfl⟩
abbrev main_call0_call0_call0_v53 : Ref sig .tc := ⟨.hbm, 130, rfl⟩
abbrev main_call0_call0_call0_v54 : Ref sig .tc := ⟨.hbm, 131, rfl⟩
abbrev main_call0_call0_call0_c_13 : Ref sig .tc := ⟨.hbm, 132, rfl⟩
abbrev main_call0_call0_call0_v55 : Ref sig .tc := ⟨.hbm, 133, rfl⟩
abbrev main_call0_call0_call0_v56 : Ref sig .tc := ⟨.hbm, 134, rfl⟩
abbrev main_call0_call0_call0_c_14 : Ref sig .tc := ⟨.hbm, 135, rfl⟩
abbrev main_call0_call0_call0_v57 : Ref sig .tc := ⟨.hbm, 136, rfl⟩
abbrev main_call0_call0_call0_v58 : Ref sig .tc := ⟨.hbm, 137, rfl⟩
abbrev main_call0_call0_call0_v59 : Ref sig .tc := ⟨.hbm, 138, rfl⟩
abbrev main_call0_call0_call0_v60 : Ref sig .tc := ⟨.hbm, 139, rfl⟩
abbrev main_call0_call0_call0_v61 : Ref sig .tc := ⟨.hbm, 140, rfl⟩
abbrev main_call0_call0_call0_c_15 : Ref sig .tc := ⟨.hbm, 141, rfl⟩
abbrev main_call0_call0_call0_v62 : Ref sig .tc := ⟨.hbm, 142, rfl⟩
abbrev main_call0_call0_call0_v63 : Ref sig .tc := ⟨.hbm, 143, rfl⟩
abbrev main_call0_call0_call0_c_16 : Ref sig .tc := ⟨.hbm, 144, rfl⟩
abbrev main_call0_call0_call0_v64 : Ref sig .tc := ⟨.hbm, 145, rfl⟩
abbrev main_call0_call0_call0_v65 : Ref sig .tc := ⟨.hbm, 146, rfl⟩
abbrev main_call0_call0_call0_v66 : Ref sig .tc := ⟨.hbm, 147, rfl⟩
abbrev main_call0_call0_call0_v67 : Ref sig .tc := ⟨.hbm, 148, rfl⟩
abbrev main_call0_call0_call0_v68 : Ref sig .tc := ⟨.hbm, 149, rfl⟩
abbrev main_call0_call0_call0_v69 : Ref sig .tc := ⟨.hbm, 150, rfl⟩
abbrev main_call0_call0_call0_v70 : Ref sig .tc := ⟨.hbm, 151, rfl⟩
abbrev main_call0_call0_call0_v71 : Ref sig .tc := ⟨.hbm, 152, rfl⟩
abbrev main_call0_call0_call0_c_17 : Ref sig .tc := ⟨.hbm, 153, rfl⟩
abbrev main_call0_call0_call0_v72 : Ref sig .tc := ⟨.hbm, 154, rfl⟩
abbrev main_call0_call0_call0_v73 : Ref sig .tc := ⟨.hbm, 155, rfl⟩
abbrev main_call0_call0_call0_v74 : Ref sig .tc := ⟨.hbm, 156, rfl⟩
abbrev main_call0_call0_call0_c_18 : Ref sig .tc := ⟨.hbm, 157, rfl⟩
abbrev main_call0_call0_call0_v75 : Ref sig .tc := ⟨.hbm, 158, rfl⟩
abbrev main_call0_call0_call0_v76 : Ref sig .tc := ⟨.hbm, 159, rfl⟩
abbrev main_call0_call0_call0_c_19 : Ref sig .tc := ⟨.hbm, 160, rfl⟩
abbrev main_call0_call0_call0_v77 : Ref sig .tc := ⟨.hbm, 161, rfl⟩
abbrev main_call0_call0_call0_v78 : Ref sig .tc := ⟨.hbm, 162, rfl⟩
abbrev main_call0_call0_call0_v79 : Ref sig .tc := ⟨.hbm, 163, rfl⟩
abbrev main_call0_call0_call0_v80 : Ref sig .tc := ⟨.hbm, 164, rfl⟩
abbrev main_call0_call0_call0_v81 : Ref sig .tc := ⟨.hbm, 165, rfl⟩
abbrev main_call0_call0_call0_c_20 : Ref sig .tc := ⟨.hbm, 166, rfl⟩
abbrev main_call0_call0_call0_v82 : Ref sig .tc := ⟨.hbm, 167, rfl⟩
abbrev main_call0_call0_call0_v83 : Ref sig .tc := ⟨.hbm, 168, rfl⟩
abbrev main_call0_call0_call0_c_21 : Ref sig .tc := ⟨.hbm, 169, rfl⟩
abbrev main_call0_call0_call0_v84 : Ref sig .tc := ⟨.hbm, 170, rfl⟩
abbrev main_call0_call0_call0_v85 : Ref sig .tc := ⟨.hbm, 171, rfl⟩
abbrev main_call0_call0_call0_v86 : Ref sig .tc := ⟨.hbm, 172, rfl⟩
abbrev main_call0_call0_call0_v87 : Ref sig .tc := ⟨.hbm, 173, rfl⟩
abbrev main_call0_call0_call0_v88 : Ref sig .tc := ⟨.hbm, 174, rfl⟩
abbrev main_call0_call0_call0_c_22 : Ref sig .tc := ⟨.hbm, 175, rfl⟩
abbrev main_call0_call0_call0_v89 : Ref sig .tc := ⟨.hbm, 176, rfl⟩
abbrev main_call0_call0_call0_v90 : Ref sig .tc := ⟨.hbm, 177, rfl⟩
abbrev main_call0_call0_call0_c_23 : Ref sig .tc := ⟨.hbm, 178, rfl⟩
abbrev main_call0_call0_call0_v91 : Ref sig .tc := ⟨.hbm, 179, rfl⟩
abbrev main_call0_call0_call0_v92 : Ref sig .tc := ⟨.hbm, 180, rfl⟩
abbrev main_call0_call0_call0_v93 : Ref sig .tc := ⟨.hbm, 181, rfl⟩
abbrev main_call0_call0_call0_v94 : Ref sig .tc := ⟨.hbm, 182, rfl⟩
abbrev main_call0_call0_call0_v95 : Ref sig .tc := ⟨.hbm, 183, rfl⟩
abbrev main_call0_call0_call0_c_24 : Ref sig .tc := ⟨.hbm, 184, rfl⟩
abbrev main_call0_call0_call0_v96 : Ref sig .tc := ⟨.hbm, 185, rfl⟩
abbrev main_call0_call0_call0_v97 : Ref sig .tc := ⟨.hbm, 186, rfl⟩
abbrev main_call0_call0_call0_c_25 : Ref sig .tc := ⟨.hbm, 187, rfl⟩
abbrev main_call0_call0_call0_v98 : Ref sig .tc := ⟨.hbm, 188, rfl⟩
abbrev main_call0_call0_call0_v99 : Ref sig .tc := ⟨.hbm, 189, rfl⟩
abbrev main_call0_call0_call0_v100 : Ref sig .tc := ⟨.hbm, 190, rfl⟩
abbrev main_call0_call0_call0_v101 : Ref sig .tc := ⟨.hbm, 191, rfl⟩
abbrev main_call0_call0_call0_v102 : Ref sig .tc := ⟨.hbm, 192, rfl⟩
abbrev main_call0_call0_call0_v103 : Ref sig .tc := ⟨.hbm, 193, rfl⟩
abbrev main_call0_call0_call0_v104 : Ref sig .tc := ⟨.hbm, 194, rfl⟩
abbrev main_call0_call0_call0_v105 : Ref sig .tc := ⟨.hbm, 195, rfl⟩
abbrev main_call0_call0_call0_c_26 : Ref sig .tc := ⟨.hbm, 196, rfl⟩
abbrev main_call0_call0_call0_v106 : Ref sig .tc := ⟨.hbm, 197, rfl⟩
abbrev main_call0_call0_call0_v107 : Ref sig .tc := ⟨.hbm, 198, rfl⟩
abbrev main_call0_call0_call0_v108 : Ref sig .tc := ⟨.hbm, 199, rfl⟩
abbrev main_call0_call0_call0_c_27 : Ref sig .tc := ⟨.hbm, 200, rfl⟩
abbrev main_call0_call0_call0_v109 : Ref sig .tc := ⟨.hbm, 201, rfl⟩
abbrev main_call0_call0_call0_v110 : Ref sig .tc := ⟨.hbm, 202, rfl⟩
abbrev main_call0_call0_call0_c_28 : Ref sig .tc := ⟨.hbm, 203, rfl⟩
abbrev main_call0_call0_call0_v111 : Ref sig .tc := ⟨.hbm, 204, rfl⟩
abbrev main_call0_call0_call0_v112 : Ref sig .tc := ⟨.hbm, 205, rfl⟩
abbrev main_call0_call0_call0_v113 : Ref sig .tc := ⟨.hbm, 206, rfl⟩
abbrev main_call0_call0_call0_v114 : Ref sig .tc := ⟨.hbm, 207, rfl⟩
abbrev main_call0_call0_call0_v115 : Ref sig .tc := ⟨.hbm, 208, rfl⟩
abbrev main_call0_call0_call0_c_29 : Ref sig .tc := ⟨.hbm, 209, rfl⟩
abbrev main_call0_call0_call0_v116 : Ref sig .tc := ⟨.hbm, 210, rfl⟩
abbrev main_call0_call0_call0_v117 : Ref sig .tc := ⟨.hbm, 211, rfl⟩
abbrev main_call0_call0_call0_c_30 : Ref sig .tc := ⟨.hbm, 212, rfl⟩
abbrev main_call0_call0_call0_v118 : Ref sig .tc := ⟨.hbm, 213, rfl⟩
abbrev main_call0_call0_call0_v119 : Ref sig .tc := ⟨.hbm, 214, rfl⟩
abbrev main_call0_call0_call0_v120 : Ref sig .tc := ⟨.hbm, 215, rfl⟩
abbrev main_call0_call0_call0_v121 : Ref sig .tc := ⟨.hbm, 216, rfl⟩
abbrev main_call0_call0_call0_v122 : Ref sig .tc := ⟨.hbm, 217, rfl⟩
abbrev main_call0_call0_call0_c_31 : Ref sig .tc := ⟨.hbm, 218, rfl⟩
abbrev main_call0_call0_call0_v123 : Ref sig .tc := ⟨.hbm, 219, rfl⟩
abbrev main_call0_call0_call0_v124 : Ref sig .tc := ⟨.hbm, 220, rfl⟩
abbrev main_call0_call0_call0_c_32 : Ref sig .tc := ⟨.hbm, 221, rfl⟩
abbrev main_call0_call0_call0_v125 : Ref sig .tc := ⟨.hbm, 222, rfl⟩
abbrev main_call0_call0_call0_v126 : Ref sig .tc := ⟨.hbm, 223, rfl⟩
abbrev main_call0_call0_call0_v127 : Ref sig .tc := ⟨.hbm, 224, rfl⟩
abbrev main_call0_call0_call0_v128 : Ref sig .tc := ⟨.hbm, 225, rfl⟩
abbrev main_call0_call0_call0_v129 : Ref sig .tc := ⟨.hbm, 226, rfl⟩
abbrev main_call0_call0_call0_c_33 : Ref sig .tc := ⟨.hbm, 227, rfl⟩
abbrev main_call0_call0_call0_v130 : Ref sig .tc := ⟨.hbm, 228, rfl⟩
abbrev main_call0_call0_call0_v131 : Ref sig .tc := ⟨.hbm, 229, rfl⟩
abbrev main_call0_call0_call0_c_34 : Ref sig .tc := ⟨.hbm, 230, rfl⟩
abbrev main_call0_call0_call0_v132 : Ref sig .tc := ⟨.hbm, 231, rfl⟩
abbrev main_call0_call0_call0_v133 : Ref sig .tc := ⟨.hbm, 232, rfl⟩
abbrev main_call0_call0_call0_v134 : Ref sig .tc := ⟨.hbm, 233, rfl⟩
abbrev main_call0_call0_call0_v135 : Ref sig .tc := ⟨.hbm, 234, rfl⟩
abbrev main_call0_call0_call0_v136 : Ref sig .tc := ⟨.hbm, 235, rfl⟩
abbrev main_call0_call0_call0_v137 : Ref sig .tc := ⟨.hbm, 236, rfl⟩
abbrev main_call0_call0_call0_v138 : Ref sig .tc := ⟨.hbm, 237, rfl⟩
abbrev main_call0_call0_call0_v139 : Ref sig .tc := ⟨.hbm, 238, rfl⟩
abbrev main_call0_call0_call0_c_35 : Ref sig .tc := ⟨.hbm, 239, rfl⟩
abbrev main_call0_call0_call0_v140 : Ref sig .tc := ⟨.hbm, 240, rfl⟩
abbrev main_call0_call0_call0_v141 : Ref sig .tc := ⟨.hbm, 241, rfl⟩
abbrev main_call0_call0_call0_v142 : Ref sig .tc := ⟨.hbm, 242, rfl⟩
abbrev main_call0_call0_call0_c_36 : Ref sig .tc := ⟨.hbm, 243, rfl⟩
abbrev main_call0_call0_call0_v143 : Ref sig .tc := ⟨.hbm, 244, rfl⟩
abbrev main_call0_call0_call0_v144 : Ref sig .tc := ⟨.hbm, 245, rfl⟩
abbrev main_call0_call0_call0_c_37 : Ref sig .tc := ⟨.hbm, 246, rfl⟩
abbrev main_call0_call0_call0_v145 : Ref sig .tc := ⟨.hbm, 247, rfl⟩
abbrev main_call0_call0_call0_v146 : Ref sig .tc := ⟨.hbm, 248, rfl⟩
abbrev main_call0_call0_call0_v147 : Ref sig .tc := ⟨.hbm, 249, rfl⟩
abbrev main_call0_call0_call0_v148 : Ref sig .tc := ⟨.hbm, 250, rfl⟩
abbrev main_call0_call0_call0_v149 : Ref sig .tc := ⟨.hbm, 251, rfl⟩
abbrev main_call0_call0_call0_c_38 : Ref sig .tc := ⟨.hbm, 252, rfl⟩
abbrev main_call0_call0_call0_v150 : Ref sig .tc := ⟨.hbm, 253, rfl⟩
abbrev main_call0_call0_call0_v151 : Ref sig .tc := ⟨.hbm, 254, rfl⟩
abbrev main_call0_call0_call0_c_39 : Ref sig .tc := ⟨.hbm, 255, rfl⟩
abbrev main_call0_call0_call0_v152 : Ref sig .tc := ⟨.hbm, 256, rfl⟩
abbrev main_call0_call0_call0_v153 : Ref sig .tc := ⟨.hbm, 257, rfl⟩
abbrev main_call0_call0_call0_v154 : Ref sig .tc := ⟨.hbm, 258, rfl⟩
abbrev main_call0_call0_call0_v155 : Ref sig .tc := ⟨.hbm, 259, rfl⟩
abbrev main_call0_call0_call0_v156 : Ref sig .tc := ⟨.hbm, 260, rfl⟩
abbrev main_call0_call0_call0_c_40 : Ref sig .tc := ⟨.hbm, 261, rfl⟩
abbrev main_call0_call0_call0_v157 : Ref sig .tc := ⟨.hbm, 262, rfl⟩
abbrev main_call0_call0_call0_v158 : Ref sig .tc := ⟨.hbm, 263, rfl⟩
abbrev main_call0_call0_call0_c_41 : Ref sig .tc := ⟨.hbm, 264, rfl⟩
abbrev main_call0_call0_call0_v159 : Ref sig .tc := ⟨.hbm, 265, rfl⟩
abbrev main_call0_call0_call0_v160 : Ref sig .tc := ⟨.hbm, 266, rfl⟩
abbrev main_call0_call0_call0_v161 : Ref sig .tc := ⟨.hbm, 267, rfl⟩
abbrev main_call0_call0_call0_v162 : Ref sig .tc := ⟨.hbm, 268, rfl⟩
abbrev main_call0_call0_call0_v163 : Ref sig .tc := ⟨.hbm, 269, rfl⟩
abbrev main_call0_call0_call0_c_42 : Ref sig .tc := ⟨.hbm, 270, rfl⟩
abbrev main_call0_call0_call0_v164 : Ref sig .tc := ⟨.hbm, 271, rfl⟩
abbrev main_call0_call0_call0_v165 : Ref sig .tc := ⟨.hbm, 272, rfl⟩
abbrev main_call0_call0_call0_c_43 : Ref sig .tc := ⟨.hbm, 273, rfl⟩
abbrev main_call0_call0_call0_v166 : Ref sig .tc := ⟨.hbm, 274, rfl⟩
abbrev main_call0_call0_call0_v167 : Ref sig .tc := ⟨.hbm, 275, rfl⟩
abbrev main_call0_call0_call0_v168 : Ref sig .tc := ⟨.hbm, 276, rfl⟩
abbrev main_call0_call0_call0_v169 : Ref sig .tc := ⟨.hbm, 277, rfl⟩
abbrev main_call0_call0_call0_v170 : Ref sig .tc := ⟨.hbm, 278, rfl⟩
abbrev main_call0_call0_v18_0 : Ref sig .tc := ⟨.hbm, 279, rfl⟩
abbrev main_call0_call0_call0_v172 : Ref sig .tc := ⟨.hbm, 280, rfl⟩
abbrev main_call0_call0_call0_v173 : Ref sig .tc := ⟨.hbm, 281, rfl⟩
abbrev main_call0_call0_call0_c_44 : Ref sig .tc := ⟨.hbm, 282, rfl⟩
abbrev main_call0_call0_call0_v174 : Ref sig .tc := ⟨.hbm, 283, rfl⟩
abbrev main_call0_call0_v18_1 : Ref sig .tc := ⟨.hbm, 284, rfl⟩
abbrev main_call0_call0_v19 : Ref sig .tc := ⟨.hbm, 285, rfl⟩
abbrev main_call0_call0_c_2 : Ref sig .tc := ⟨.hbm, 286, rfl⟩
abbrev main_call0_call0_v20 : Ref sig .tc := ⟨.hbm, 287, rfl⟩
abbrev main_call0_call0_v21 : Ref sig .tc := ⟨.hbm, 288, rfl⟩
abbrev main_call0_call0_c_3 : Ref sig .tc := ⟨.hbm, 289, rfl⟩
abbrev main_call0_call0_v22 : Ref sig .tc := ⟨.hbm, 290, rfl⟩
abbrev main_call0_call0_v23 : Ref sig .tc := ⟨.hbm, 291, rfl⟩
abbrev main_call0_call0_v24 : Ref sig .tc := ⟨.hbm, 292, rfl⟩
abbrev main_call0_call0_cst : Ref sig .tc := ⟨.hbm, 293, rfl⟩
abbrev main_call0_call0_v25 : Ref sig .tc := ⟨.hbm, 294, rfl⟩
abbrev main_call0_call0_v26 : Ref sig .tc := ⟨.hbm, 295, rfl⟩
abbrev main_call0_call0_v27 : Ref sig .tc := ⟨.hbm, 296, rfl⟩
abbrev main_call0_call0_v28 : Ref sig .tc := ⟨.hbm, 297, rfl⟩
abbrev main_call0_call0_v29 : Ref sig .tc := ⟨.hbm, 298, rfl⟩
abbrev main_call0_call0_v30 : Ref sig .tc := ⟨.hbm, 299, rfl⟩
abbrev main_call0_call0_v31 : Ref sig .tc := ⟨.hbm, 300, rfl⟩
abbrev main_call0_call0_v32 : Ref sig .tc := ⟨.hbm, 301, rfl⟩
abbrev main_call0_v0 : Ref sig .tc := ⟨.hbm, 302, rfl⟩
abbrev main_call0_v1 : Ref sig .tc := ⟨.hbm, 303, rfl⟩
abbrev main_call0_v2 : Ref sig .tc := ⟨.hbm, 304, rfl⟩
abbrev main_call0_v3 : Ref sig .tc := ⟨.hbm, 305, rfl⟩
abbrev main_v23 : Ref sig .tc := ⟨.hbm, 306, rfl⟩
abbrev main_cst_2 : Ref sig .tc := ⟨.hbm, 307, rfl⟩
abbrev main_call1_v0 : Ref sig .tc := ⟨.hbm, 308, rfl⟩
abbrev main_v24 : Ref sig .tc := ⟨.hbm, 309, rfl⟩
abbrev main_c_3 : Ref sig .tc := ⟨.hbm, 310, rfl⟩
abbrev main_call2_v0 : Ref sig .tc := ⟨.hbm, 311, rfl⟩
abbrev main_v25 : Ref sig .tc := ⟨.hbm, 312, rfl⟩
abbrev main_v26 : Ref sig .tc := ⟨.hbm, 313, rfl⟩
abbrev main_v27 : Ref sig .tc := ⟨.hbm, 314, rfl⟩
abbrev main_v28 : Ref sig .tc := ⟨.hbm, 315, rfl⟩
abbrev main_v29 : Ref sig .tc := ⟨.hbm, 316, rfl⟩
abbrev main_v30 : Ref sig .tc := ⟨.hbm, 317, rfl⟩
abbrev main_v31 : Ref sig .tc := ⟨.hbm, 318, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_28 : Index := 0#32
  let arg0 : BitVec 32 := BitVec.ofNat 32 (i 0).val
  let c256_i32 : BitVec 32 := 256#32
  let v52 : BitVec 32 := Scalar.muli arg0 c256_i32
  let v53 : Index := Scalar.indexCast v52
  ![0, v53.toNat]
def k0_cond2 (i : grid0.Coords) : BitVec 1 :=
  let arg0 : BitVec 32 := BitVec.ofNat 32 (i 0).val
  let c7_i32 : BitVec 32 := 7#32
  let v57 : BitVec 1 := Scalar.cmpi .eq arg0 c7_i32
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x16 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S16x2048x256 : Shape := ⟨3, ![16, 2048, 256]⟩
abbrev S16x2 : Shape := ⟨2, ![16, 2]⟩
abbrev S2x512 : Shape := ⟨2, ![2, 512]⟩
abbrev S512 : Shape := ⟨1, ![512]⟩
abbrev S512x256 : Shape := ⟨2, ![512, 256]⟩
abbrev S256 : Shape := ⟨1, ![256]⟩
abbrev S2046x256 : Shape := ⟨2, ![2046, 256]⟩
abbrev S1025x256 : Shape := ⟨2, ![1025, 256]⟩
abbrev S256x1 : Shape := ⟨2, ![256, 1]⟩
abbrev S1 : Shape := ⟨1, ![1]⟩
abbrev S16x512 : Shape := ⟨2, ![16, 512]⟩
abbrev S1x512 : Shape := ⟨2, ![1, 512]⟩
abbrev S_ : Shape := ⟨0, ![]⟩
abbrev S16x256 : Shape := ⟨2, ![16, 256]⟩
abbrev S1x256 : Shape := ⟨2, ![1, 256]⟩
abbrev S16x1x256 : Shape := ⟨3, ![16, 1, 256]⟩
abbrev S16x2048x512 : Shape := ⟨3, ![16, 2048, 512]⟩
abbrev S1x1x256 : Shape := ⟨3, ![1, 1, 256]⟩
abbrev S16x2046x256 : Shape := ⟨3, ![16, 2046, 256]⟩
abbrev S1x2046x256 : Shape := ⟨3, ![1, 2046, 256]⟩
abbrev S16x2046 : Shape := ⟨2, ![16, 2046]⟩
abbrev S16x2046x1 : Shape := ⟨3, ![16, 2046, 1]⟩
abbrev S16x2046x1025 : Shape := ⟨3, ![16, 2046, 1025]⟩
abbrev S1x1x1 : Shape := ⟨3, ![1, 1, 1]⟩
abbrev S2 : Shape := ⟨1, ![2]⟩
abbrev S1x1 : Shape := ⟨2, ![1, 1]⟩
abbrev S16x14 : Shape := ⟨2, ![16, 14]⟩
abbrev S16x1 : Shape := ⟨2, ![16, 1]⟩
abbrev S16x16 : Shape := ⟨2, ![16, 16]⟩

abbrev nBuf : Space → Nat
  | .hbm => 345
  | .vmem => 0
  | .smem => 0
  | _ => 0

abbrev hbmTy0_0 (i : Nat) : BufTy := match i % 128 with
  | 0 => ⟨S16x2048x256, .f32⟩
  | 1 => ⟨S16x2, .f32⟩
  | 2 => ⟨S2x512, .f32⟩
  | 3 => ⟨S512, .f32⟩
  | 4 => ⟨S512x256, .f32⟩
  | 5 => ⟨S256, .f32⟩
  | 6 => ⟨S512x256, .f32⟩
  | 7 => ⟨S256, .f32⟩
  | 8 => ⟨S2046x256, .f32⟩
  | 9 => ⟨S1025x256, .f32⟩
  | 10 => ⟨S256, .f32⟩
  | 11 => ⟨S256x1, .f32⟩
  | 12 => ⟨S1, .f32⟩
  | 13 => ⟨S16x512, .f32⟩
  | 14 => ⟨S1x512, .f32⟩
  | 15 => ⟨S16x512, .f32⟩
  | 16 => ⟨S16x512, .f32⟩
  | 17 => ⟨S_, .f32⟩
  | 18 => ⟨S16x512, .f32⟩
  | 19 => ⟨S16x512, .f32⟩
  | 20 => ⟨S16x256, .f32⟩
  | 21 => ⟨S1x256, .f32⟩
  | 22 => ⟨S16x256, .f32⟩
  | 23 => ⟨S16x256, .f32⟩
  | 24 => ⟨S16x1x256, .f32⟩
  | 25 => ⟨S16x2048x256, .f32⟩
  | 26 => ⟨S16x2048x512, .f32⟩
  | 27 => ⟨S16x2048x256, .f32⟩
  | 28 => ⟨S1x1x256, .f32⟩
  | 29 => ⟨S16x2048x256, .f32⟩
  | 30 => ⟨S16x2048x256, .f32⟩
  | 31 => ⟨S16x2046x256, .f32⟩
  | 32 => ⟨S1x2046x256, .f32⟩
  | 33 => ⟨S16x2046x256, .f32⟩
  | 34 => ⟨S16x2046x256, .f32⟩
  | 35 => ⟨S_, .f32⟩
  | 36 => ⟨S16x2046, .f32⟩
  | 37 => ⟨S16x2046x1, .f32⟩
  | 38 => ⟨S16x2046x256, .f32⟩
  | 39 => ⟨S16x2046x256, .f32⟩
  | 40 => ⟨S16x2046x1025, .f32⟩
  | 41 => ⟨S16x2046x256, .f32⟩
  | 42 => ⟨S1x1x256, .f32⟩
  | 43 => ⟨S16x2046x256, .f32⟩
  | 44 => ⟨S16x2046x256, .f32⟩
  | 45 => ⟨S_, .f32⟩
  | 46 => ⟨S16x2046x256, .f32⟩
  | 47 => ⟨S16x2046x256, .f32⟩
  | 48 => ⟨S16x2046x1, .f32⟩
  | 49 => ⟨S1x1x1, .f32⟩
  | 50 => ⟨S16x2046x1, .f32⟩
  | 51 => ⟨S16x2046x1, .f32⟩
  | 52 => ⟨S16x2046, .f32⟩
  | 53 => ⟨S_, .i32⟩
  | 54 => ⟨S_, .i32⟩
  | 55 => ⟨S_, .i32⟩
  | 56 => ⟨S_, .i32⟩
  | 57 => ⟨S1, .i32⟩
  | 58 => ⟨S_, .i32⟩
  | 59 => ⟨S_, .i32⟩
  | 60 => ⟨S_, .i32⟩
  | 61 => ⟨S1, .i32⟩
  | 62 => ⟨S2, .i32⟩
  | 63 => ⟨S_, .f32⟩
  | 64 => ⟨S_, .f32⟩
  | 65 => ⟨S_, .f32⟩
  | 66 => ⟨S1x1, .f32⟩
  | 67 => ⟨S1x1, .f32⟩
  | 68 => ⟨S1, .i32⟩
  | 69 => ⟨S_, .i32⟩
  | 70 => ⟨S1, .i32⟩
  | 71 => ⟨S_, .i32⟩
  | 72 => ⟨S16x2046, .i64⟩
  | 73 => ⟨S16x2046, .i64⟩
  | 74 => ⟨S_, .i64⟩
  | 75 => ⟨S16x2046, .i64⟩
  | 76 => ⟨S16x2046, .i64⟩
  | 77 => ⟨S_, .i64⟩
  | 78 => ⟨S16x2046, .i64⟩
  | 79 => ⟨S16x2046, .i64⟩
  | 80 => ⟨S16x2046, .i64⟩
  | 81 => ⟨S_, .i64⟩
  | 82 => ⟨S16x2046, .i64⟩
  | 83 => ⟨S16x2046, .i64⟩
  | 84 => ⟨S16x2046, .i32⟩
  | 85 => ⟨S16x2046, .i32⟩
  | 86 => ⟨S_, .i32⟩
  | 87 => ⟨S_, .i32⟩
  | 88 => ⟨S_, .i32⟩
  | 89 => ⟨S16x2046, .i32⟩
  | 90 => ⟨S16x2046, .i32⟩
  | 91 => ⟨S16x2046, .i32⟩
  | 92 => ⟨S16x2046, .i32⟩
  | 93 => ⟨S16x2046, .i32⟩
  | 94 => ⟨S_, .i32⟩
  | 95 => ⟨S16x2046, .i32⟩
  | 96 => ⟨S16x2046, .i32⟩
  | 97 => ⟨S_, .i32⟩
  | 98 => ⟨S16x2046, .i32⟩
  | 99 => ⟨S16x2046, .i32⟩
  | 100 => ⟨S16x2046, .i32⟩
  | 101 => ⟨S16x2046, .i32⟩
  | 102 => ⟨S16x2046, .i32⟩
  | 103 => ⟨S_, .i32⟩
  | 104 => ⟨S16x2046, .i32⟩
  | 105 => ⟨S16x2046, .i32⟩
  | 106 => ⟨S_, .i32⟩
  | 107 => ⟨S16x2046, .i32⟩
  | 108 => ⟨S16x2046, .i32⟩
  | 109 => ⟨S16x2046, .i32⟩
  | 110 => ⟨S16x2046, .i32⟩
  | 111 => ⟨S16x2046, .i32⟩
  | 112 => ⟨S_, .i32⟩
  | 113 => ⟨S16x2046, .i32⟩
  | 114 => ⟨S16x2046, .i32⟩
  | 115 => ⟨S_, .i32⟩
  | 116 => ⟨S16x2046, .i32⟩
  | 117 => ⟨S16x2046, .i32⟩
  | 118 => ⟨S16x2046, .i32⟩
  | 119 => ⟨S16x2046, .i32⟩
  | 120 => ⟨S16x2046, .i32⟩
  | 121 => ⟨S_, .i32⟩
  | 122 => ⟨S16x2046, .i32⟩
  | 123 => ⟨S16x2046, .i32⟩
  | 124 => ⟨S_, .i32⟩
  | 125 => ⟨S16x2046, .i32⟩
  | 126 => ⟨S16x2046, .i32⟩
  | 127 => ⟨S16x2046, .i32⟩
  | _ => ⟨S16x2048x256, .f32⟩

abbrev hbmTy0_1 (i : Nat) : BufTy := match i % 128 with
  | 0 => ⟨S16x2046, .i32⟩
  | 1 => ⟨S16x2046, .i32⟩
  | 2 => ⟨S16x2046, .i32⟩
  | 3 => ⟨S16x2046, .i32⟩
  | 4 => ⟨S16x2046, .i32⟩
  | 5 => ⟨S_, .i32⟩
  | 6 => ⟨S16x2046, .i32⟩
  | 7 => ⟨S16x2046, .i32⟩
  | 8 => ⟨S16x2046, .i32⟩
  | 9 => ⟨S_, .i32⟩
  | 10 => ⟨S16x2046, .i32⟩
  | 11 => ⟨S16x2046, .i32⟩
  | 12 => ⟨S_, .i32⟩
  | 13 => ⟨S16x2046, .i32⟩
  | 14 => ⟨S16x2046, .i32⟩
  | 15 => ⟨S16x2046, .i32⟩
  | 16 => ⟨S16x2046, .i32⟩
  | 17 => ⟨S16x2046, .i32⟩
  | 18 => ⟨S_, .i32⟩
  | 19 => ⟨S16x2046, .i32⟩
  | 20 => ⟨S16x2046, .i32⟩
  | 21 => ⟨S_, .i32⟩
  | 22 => ⟨S16x2046, .i32⟩
  | 23 => ⟨S16x2046, .i32⟩
  | 24 => ⟨S16x2046, .i32⟩
  | 25 => ⟨S16x2046, .i32⟩
  | 26 => ⟨S16x2046, .i32⟩
  | 27 => ⟨S_, .i32⟩
  | 28 => ⟨S16x2046, .i32⟩
  | 29 => ⟨S16x2046, .i32⟩
  | 30 => ⟨S_, .i32⟩
  | 31 => ⟨S16x2046, .i32⟩
  | 32 => ⟨S16x2046, .i32⟩
  | 33 => ⟨S16x2046, .i32⟩
  | 34 => ⟨S16x2046, .i32⟩
  | 35 => ⟨S16x2046, .i32⟩
  | 36 => ⟨S_, .i32⟩
  | 37 => ⟨S16x2046, .i32⟩
  | 38 => ⟨S16x2046, .i32⟩
  | 39 => ⟨S_, .i32⟩
  | 40 => ⟨S16x2046, .i32⟩
  | 41 => ⟨S16x2046, .i32⟩
  | 42 => ⟨S16x2046, .i32⟩
  | 43 => ⟨S16x2046, .i32⟩
  | 44 => ⟨S16x2046, .i32⟩
  | 45 => ⟨S16x2046, .i32⟩
  | 46 => ⟨S16x2046, .i32⟩
  | 47 => ⟨S16x2046, .i32⟩
  | 48 => ⟨S_, .i32⟩
  | 49 => ⟨S16x2046, .i32⟩
  | 50 => ⟨S16x2046, .i32⟩
  | 51 => ⟨S16x2046, .i32⟩
  | 52 => ⟨S_, .i32⟩
  | 53 => ⟨S16x2046, .i32⟩
  | 54 => ⟨S16x2046, .i32⟩
  | 55 => ⟨S_, .i32⟩
  | 56 => ⟨S16x2046, .i32⟩
  | 57 => ⟨S16x2046, .i32⟩
  | 58 => ⟨S16x2046, .i32⟩
  | 59 => ⟨S16x2046, .i32⟩
  | 60 => ⟨S16x2046, .i32⟩
  | 61 => ⟨S_, .i32⟩
  | 62 => ⟨S16x2046, .i32⟩
  | 63 => ⟨S16x2046, .i32⟩
  | 64 => ⟨S_, .i32⟩
  | 65 => ⟨S16x2046, .i32⟩
  | 66 => ⟨S16x2046, .i32⟩
  | 67 => ⟨S16x2046, .i32⟩
  | 68 => ⟨S16x2046, .i32⟩
  | 69 => ⟨S16x2046, .i32⟩
  | 70 => ⟨S_, .i32⟩
  | 71 => ⟨S16x2046, .i32⟩
  | 72 => ⟨S16x2046, .i32⟩
  | 73 => ⟨S_, .i32⟩
  | 74 => ⟨S16x2046, .i32⟩
  | 75 => ⟨S16x2046, .i32⟩
  | 76 => ⟨S16x2046, .i32⟩
  | 77 => ⟨S16x2046, .i32⟩
  | 78 => ⟨S16x2046, .i32⟩
  | 79 => ⟨S_, .i32⟩
  | 80 => ⟨S16x2046, .i32⟩
  | 81 => ⟨S16x2046, .i32⟩
  | 82 => ⟨S_, .i32⟩
  | 83 => ⟨S16x2046, .i32⟩
  | 84 => ⟨S16x2046, .i32⟩
  | 85 => ⟨S16x2046, .i32⟩
  | 86 => ⟨S16x2046, .i32⟩
  | 87 => ⟨S16x2046, .i32⟩
  | 88 => ⟨S16x2046, .i32⟩
  | 89 => ⟨S16x2046, .i32⟩
  | 90 => ⟨S16x2046, .i32⟩
  | 91 => ⟨S_, .i32⟩
  | 92 => ⟨S16x2046, .i32⟩
  | 93 => ⟨S16x2046, .i32⟩
  | 94 => ⟨S16x2046, .i32⟩
  | 95 => ⟨S_, .i32⟩
  | 96 => ⟨S16x2046, .i32⟩
  | 97 => ⟨S16x2046, .i32⟩
  | 98 => ⟨S_, .i32⟩
  | 99 => ⟨S16x2046, .i32⟩
  | 100 => ⟨S16x2046, .i32⟩
  | 101 => ⟨S16x2046, .i32⟩
  | 102 => ⟨S16x2046, .i32⟩
  | 103 => ⟨S16x2046, .i32⟩
  | 104 => ⟨S_, .i32⟩
  | 105 => ⟨S16x2046, .i32⟩
  | 106 => ⟨S16x2046, .i32⟩
  | 107 => ⟨S_, .i32⟩
  | 108 => ⟨S16x2046, .i32⟩
  | 109 => ⟨S16x2046, .i32⟩
  | 110 => ⟨S16x2046, .i32⟩
  | 111 => ⟨S16x2046, .i32⟩
  | 112 => ⟨S16x2046, .i32⟩
  | 113 => ⟨S_, .i32⟩
  | 114 => ⟨S16x2046, .i32⟩
  | 115 => ⟨S16x2046, .i32⟩
  | 116 => ⟨S_, .i32⟩
  | 117 => ⟨S16x2046, .i32⟩
  | 118 => ⟨S16x2046, .i32⟩
  | 119 => ⟨S16x2046, .i32⟩
  | 120 => ⟨S16x2046, .i32⟩
  | 121 => ⟨S16x2046, .i32⟩
  | 122 => ⟨S_, .i32⟩
  | 123 => ⟨S16x2046, .i32⟩
  | 124 => ⟨S16x2046, .i32⟩
  | 125 => ⟨S_, .i32⟩
  | 126 => ⟨S16x2046, .i32⟩
  | 127 => ⟨S16x2046, .i32⟩
  | _ => ⟨S16x2048x256, .f32⟩

abbrev hbmTy0_2 (i : Nat) : BufTy := match i % 128 with
  | 0 => ⟨S16x2046, .i32⟩
  | 1 => ⟨S16x2046, .i32⟩
  | 2 => ⟨S16x2046, .i32⟩
  | 3 => ⟨S16x2046, .i32⟩
  | 4 => ⟨S16x2046, .i32⟩
  | 5 => ⟨S16x2046, .i32⟩
  | 6 => ⟨S_, .i32⟩
  | 7 => ⟨S16x2046, .i32⟩
  | 8 => ⟨S16x2046, .i32⟩
  | 9 => ⟨S16x2046, .i32⟩
  | 10 => ⟨S_, .i32⟩
  | 11 => ⟨S16x2046, .i32⟩
  | 12 => ⟨S16x2046, .i32⟩
  | 13 => ⟨S_, .i32⟩
  | 14 => ⟨S16x2046, .i32⟩
  | 15 => ⟨S16x2046, .i32⟩
  | 16 => ⟨S16x2046, .i32⟩
  | 17 => ⟨S16x2046, .i32⟩
  | 18 => ⟨S16x2046, .i32⟩
  | 19 => ⟨S_, .i32⟩
  | 20 => ⟨S16x2046, .i32⟩
  | 21 => ⟨S16x2046, .i32⟩
  | 22 => ⟨S_, .i32⟩
  | 23 => ⟨S16x2046, .i32⟩
  | 24 => ⟨S16x2046, .i32⟩
  | 25 => ⟨S16x2046, .i32⟩
  | 26 => ⟨S16x2046, .i32⟩
  | 27 => ⟨S16x2046, .i32⟩
  | 28 => ⟨S_, .i32⟩
  | 29 => ⟨S16x2046, .i32⟩
  | 30 => ⟨S16x2046, .i32⟩
  | 31 => ⟨S_, .i32⟩
  | 32 => ⟨S16x2046, .i32⟩
  | 33 => ⟨S16x2046, .i32⟩
  | 34 => ⟨S16x2046, .i32⟩
  | 35 => ⟨S16x2046, .i32⟩
  | 36 => ⟨S16x2046, .i32⟩
  | 37 => ⟨S_, .i32⟩
  | 38 => ⟨S16x2046, .i32⟩
  | 39 => ⟨S16x2046, .i32⟩
  | 40 => ⟨S_, .i32⟩
  | 41 => ⟨S16x2046, .i32⟩
  | 42 => ⟨S16x2046, .i32⟩
  | 43 => ⟨S16x2046, .i32⟩
  | 44 => ⟨S16x2046, .i32⟩
  | 45 => ⟨S16x2046, .i32⟩
  | 46 => ⟨S16x2046, .i32⟩
  | 47 => ⟨S16x2046, .i32⟩
  | 48 => ⟨S16x2046, .i32⟩
  | 49 => ⟨S_, .i32⟩
  | 50 => ⟨S16x2046, .i32⟩
  | 51 => ⟨S16x2046, .i32⟩
  | 52 => ⟨S16x2046, .i32⟩
  | 53 => ⟨S_, .i32⟩
  | 54 => ⟨S16x2046, .i32⟩
  | 55 => ⟨S16x2046, .i32⟩
  | 56 => ⟨S_, .i32⟩
  | 57 => ⟨S16x2046, .i32⟩
  | 58 => ⟨S16x2046, .i32⟩
  | 59 => ⟨S16x2046, .f32⟩
  | 60 => ⟨S_, .f32⟩
  | 61 => ⟨S16x2046, .f32⟩
  | 62 => ⟨S16x2046, .f32⟩
  | 63 => ⟨S1x1, .f32⟩
  | 64 => ⟨S16x2046, .f32⟩
  | 65 => ⟨S16x2046, .f32⟩
  | 66 => ⟨S16x2046, .f32⟩
  | 67 => ⟨S16x2046, .f32⟩
  | 68 => ⟨S16x2046, .f32⟩
  | 69 => ⟨S16x2046, .f32⟩
  | 70 => ⟨S16x2046, .f32⟩
  | 71 => ⟨S16x2046, .f32⟩
  | 72 => ⟨S16x2046, .f32⟩
  | 73 => ⟨S16x2046, .f32⟩
  | 74 => ⟨S16x2046, .f32⟩
  | 75 => ⟨S_, .f32⟩
  | 76 => ⟨S16x2046, .f32⟩
  | 77 => ⟨S16x2046, .f32⟩
  | 78 => ⟨S16x14, .f32⟩
  | 79 => ⟨S16x14, .i32⟩
  | 80 => ⟨S_, .i32⟩
  | 81 => ⟨S16x1, .i32⟩
  | 82 => ⟨S_, .i32⟩
  | 83 => ⟨S16x14, .i32⟩
  | 84 => ⟨S16x14, .i32⟩
  | 85 => ⟨S_, .i32⟩
  | 86 => ⟨S16x1, .i32⟩
  | 87 => ⟨S16x16, .i32⟩
  | 88 => ⟨S16x16, .i32⟩
  | _ => ⟨S16x2048x256, .f32⟩

abbrev hbmTy (i : Nat) : BufTy := match i / 128 with
  | 0 => hbmTy0_0 i
  | 1 => hbmTy0_1 i
  | 2 => hbmTy0_2 i
  | _ => ⟨S16x2048x256, .f32⟩

abbrev bufTy : (tb : Table) → Fin (tcTables nBuf tb) → BufTy
  | .hbm, ⟨i, _⟩ => hbmTy i
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_c_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_cst_0 : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_c : Ref sig .tc := ⟨.hbm, 74, rfl⟩
abbrev main_call0_call0_v9 : Ref sig .tc := ⟨.hbm, 75, rfl⟩
abbrev main_call0_call0_v10 : Ref sig .tc := ⟨.hbm, 76, rfl⟩
abbrev main_call0_call0_c_0 : Ref sig .tc := ⟨.hbm, 77, rfl⟩
abbrev main_call0_call0_v11 : Ref sig .tc := ⟨.hbm, 78, rfl⟩
abbrev main_call0_call0_v12 : Ref sig .tc := ⟨.hbm, 79, rfl⟩
abbrev main_call0_call0_v13 : Ref sig .tc := ⟨.hbm, 80, rfl⟩
abbrev main_call0_call0_c_1 : Ref sig .tc := ⟨.hbm, 81, rfl⟩
abbrev main_call0_call0_v14 : Ref sig .tc := ⟨.hbm, 82, rfl⟩
abbrev main_call0_call0_v15 : Ref sig .tc := ⟨.hbm, 83, rfl⟩
abbrev main_call0_call0_v16 : Ref sig .tc := ⟨.hbm, 84, rfl⟩
abbrev main_call0_call0_v17 : Ref sig .tc := ⟨.hbm, 85, rfl⟩
abbrev main_call0_call0_call0_v0 : Ref sig .tc := ⟨.hbm, 86, rfl⟩
abbrev main_call0_call0_call0_c : Ref sig .tc := ⟨.hbm, 87, rfl⟩
abbrev main_call0_call0_call0_v1 : Ref sig .tc := ⟨.hbm, 88, rfl⟩
abbrev main_call0_call0_call0_v2 : Ref sig .tc := ⟨.hbm, 89, rfl⟩
abbrev main_call0_call0_call0_v3 : Ref sig .tc := ⟨.hbm, 90, rfl⟩
abbrev main_call0_call0_call0_v4 : Ref sig .tc := ⟨.hbm, 91, rfl⟩
abbrev main_call0_call0_call0_v5 : Ref sig .tc := ⟨.hbm, 92, rfl⟩
abbrev main_call0_call0_call0_v6 : Ref sig .tc := ⟨.hbm, 93, rfl⟩
abbrev main_call0_call0_call0_c_0 : Ref sig .tc := ⟨.hbm, 94, rfl⟩
abbrev main_call0_call0_call0_v7 : Ref sig .tc := ⟨.hbm, 95, rfl⟩
abbrev main_call0_call0_call0_v8 : Ref sig .tc := ⟨.hbm, 96, rfl⟩
abbrev main_call0_call0_call0_c_1 : Ref sig .tc := ⟨.hbm, 97, rfl⟩
abbrev main_call0_call0_call0_v9 : Ref sig .tc := ⟨.hbm, 98, rfl⟩
abbrev main_call0_call0_call0_v10 : Ref sig .tc := ⟨.hbm, 99, rfl⟩
abbrev main_call0_call0_call0_v11 : Ref sig .tc := ⟨.hbm, 100, rfl⟩
abbrev main_call0_call0_call0_v12 : Ref sig .tc := ⟨.hbm, 101, rfl⟩
abbrev main_call0_call0_call0_v13 : Ref sig .tc := ⟨.hbm, 102, rfl⟩
abbrev main_call0_call0_call0_c_2 : Ref sig .tc := ⟨.hbm, 103, rfl⟩
abbrev main_call0_call0_call0_v14 : Ref sig .tc := ⟨.hbm, 104, rfl⟩
abbrev main_call0_call0_call0_v15 : Ref sig .tc := ⟨.hbm, 105, rfl⟩
abbrev main_call0_call0_call0_c_3 : Ref sig .tc := ⟨.hbm, 106, rfl⟩
abbrev main_call0_call0_call0_v16 : Ref sig .tc := ⟨.hbm, 107, rfl⟩
abbrev main_call0_call0_call0_v17 : Ref sig .tc := ⟨.hbm, 108, rfl⟩
abbrev main_call0_call0_call0_v18 : Ref sig .tc := ⟨.hbm, 109, rfl⟩
abbrev main_call0_call0_call0_v19 : Ref sig .tc := ⟨.hbm, 110, rfl⟩
abbrev main_call0_call0_call0_v20 : Ref sig .tc := ⟨.hbm, 111, rfl⟩
abbrev main_call0_call0_call0_c_4 : Ref sig .tc := ⟨.hbm, 112, rfl⟩
abbrev main_call0_call0_call0_v21 : Ref sig .tc := ⟨.hbm, 113, rfl⟩
abbrev main_call0_call0_call0_v22 : Ref sig .tc := ⟨.hbm, 114, rfl⟩
abbrev main_call0_call0_call0_c_5 : Ref sig .tc := ⟨.hbm, 115, rfl⟩
abbrev main_call0_call0_call0_v23 : Ref sig .tc := ⟨.hbm, 116, rfl⟩
abbrev main_call0_call0_call0_v24 : Ref sig .tc := ⟨.hbm, 117, rfl⟩
abbrev main_call0_call0_call0_v25 : Ref sig .tc := ⟨.hbm, 118, rfl⟩
abbrev main_call0_call0_call0_v26 : Ref sig .tc := ⟨.hbm, 119, rfl⟩
abbrev main_call0_call0_call0_v27 : Ref sig .tc := ⟨.hbm, 120, rfl⟩
abbrev main_call0_call0_call0_c_6 : Ref sig .tc := ⟨.hbm, 121, rfl⟩
abbrev main_call0_call0_call0_v28 : Ref sig .tc := ⟨.hbm, 122, rfl⟩
abbrev main_call0_call0_call0_v29 : Ref sig .tc := ⟨.hbm, 123, rfl⟩
abbrev main_call0_call0_call0_c_7 : Ref sig .tc := ⟨.hbm, 124, rfl⟩
abbrev main_call0_call0_call0_v30 : Ref sig .tc := ⟨.hbm, 125, rfl⟩
abbrev main_call0_call0_call0_v31 : Ref sig .tc := ⟨.hbm, 126, rfl⟩
abbrev main_call0_call0_call0_v32 : Ref sig .tc := ⟨.hbm, 127, rfl⟩
abbrev main_call0_call0_call0_v33 : Ref sig .tc := ⟨.hbm, 128, rfl⟩
abbrev main_call0_call0_call0_v34 : Ref sig .tc := ⟨.hbm, 129, rfl⟩
abbrev main_call0_call0_call0_v35 : Ref sig .tc := ⟨.hbm, 130, rfl⟩
abbrev main_call0_call0_call0_v36 : Ref sig .tc := ⟨.hbm, 131, rfl⟩
abbrev main_call0_call0_call0_v37 : Ref sig .tc := ⟨.hbm, 132, rfl⟩
abbrev main_call0_call0_call0_c_8 : Ref sig .tc := ⟨.hbm, 133, rfl⟩
abbrev main_call0_call0_call0_v38 : Ref sig .tc := ⟨.hbm, 134, rfl⟩
abbrev main_call0_call0_call0_v39 : Ref sig .tc := ⟨.hbm, 135, rfl⟩
abbrev main_call0_call0_call0_v40 : Ref sig .tc := ⟨.hbm, 136, rfl⟩
abbrev main_call0_call0_call0_c_9 : Ref sig .tc := ⟨.hbm, 137, rfl⟩
abbrev main_call0_call0_call0_v41 : Ref sig .tc := ⟨.hbm, 138, rfl⟩
abbrev main_call0_call0_call0_v42 : Ref sig .tc := ⟨.hbm, 139, rfl⟩
abbrev main_call0_call0_call0_c_10 : Ref sig .tc := ⟨.hbm, 140, rfl⟩
abbrev main_call0_call0_call0_v43 : Ref sig .tc := ⟨.hbm, 141, rfl⟩
abbrev main_call0_call0_call0_v44 : Ref sig .tc := ⟨.hbm, 142, rfl⟩
abbrev main_call0_call0_call0_v45 : Ref sig .tc := ⟨.hbm, 143, rfl⟩
abbrev main_call0_call0_call0_v46 : Ref sig .tc := ⟨.hbm, 144, rfl⟩
abbrev main_call0_call0_call0_v47 : Ref sig .tc := ⟨.hbm, 145, rfl⟩
abbrev main_call0_call0_call0_c_11 : Ref sig .tc := ⟨.hbm, 146, rfl⟩
abbrev main_call0_call0_call0_v48 : Ref sig .tc := ⟨.hbm, 147, rfl⟩
abbrev main_call0_call0_call0_v49 : Ref sig .tc := ⟨.hbm, 148, rfl⟩
abbrev main_call0_call0_call0_c_12 : Ref sig .tc := ⟨.hbm, 149, rfl⟩
abbrev main_call0_call0_call0_v50 : Ref sig .tc := ⟨.hbm, 150, rfl⟩
abbrev main_call0_call0_call0_v51 : Ref sig .tc := ⟨.hbm, 151, rfl⟩
abbrev main_call0_call0_call0_v52 : Ref sig .tc := ⟨.hbm, 152, rfl⟩
abbrev main_call0_call0_call0_v53 : Ref sig .tc := ⟨.hbm, 153, rfl⟩
abbrev main_call0_call0_call0_v54 : Ref sig .tc := ⟨.hbm, 154, rfl⟩
abbrev main_call0_call0_call0_c_13 : Ref sig .tc := ⟨.hbm, 155, rfl⟩
abbrev main_call0_call0_call0_v55 : Ref sig .tc := ⟨.hbm, 156, rfl⟩
abbrev main_call0_call0_call0_v56 : Ref sig .tc := ⟨.hbm, 157, rfl⟩
abbrev main_call0_call0_call0_c_14 : Ref sig .tc := ⟨.hbm, 158, rfl⟩
abbrev main_call0_call0_call0_v57 : Ref sig .tc := ⟨.hbm, 159, rfl⟩
abbrev main_call0_call0_call0_v58 : Ref sig .tc := ⟨.hbm, 160, rfl⟩
abbrev main_call0_call0_call0_v59 : Ref sig .tc := ⟨.hbm, 161, rfl⟩
abbrev main_call0_call0_call0_v60 : Ref sig .tc := ⟨.hbm, 162, rfl⟩
abbrev main_call0_call0_call0_v61 : Ref sig .tc := ⟨.hbm, 163, rfl⟩
abbrev main_call0_call0_call0_c_15 : Ref sig .tc := ⟨.hbm, 164, rfl⟩
abbrev main_call0_call0_call0_v62 : Ref sig .tc := ⟨.hbm, 165, rfl⟩
abbrev main_call0_call0_call0_v63 : Ref sig .tc := ⟨.hbm, 166, rfl⟩
abbrev main_call0_call0_call0_c_16 : Ref sig .tc := ⟨.hbm, 167, rfl⟩
abbrev main_call0_call0_call0_v64 : Ref sig .tc := ⟨.hbm, 168, rfl⟩
abbrev main_call0_call0_call0_v65 : Ref sig .tc := ⟨.hbm, 169, rfl⟩
abbrev main_call0_call0_call0_v66 : Ref sig .tc := ⟨.hbm, 170, rfl⟩
abbrev main_call0_call0_call0_v67 : Ref sig .tc := ⟨.hbm, 171, rfl⟩
abbrev main_call0_call0_call0_v68 : Ref sig .tc := ⟨.hbm, 172, rfl⟩
abbrev main_call0_call0_call0_v69 : Ref sig .tc := ⟨.hbm, 173, rfl⟩
abbrev main_call0_call0_call0_v70 : Ref sig .tc := ⟨.hbm, 174, rfl⟩
abbrev main_call0_call0_call0_v71 : Ref sig .tc := ⟨.hbm, 175, rfl⟩
abbrev main_call0_call0_call0_c_17 : Ref sig .tc := ⟨.hbm, 176, rfl⟩
abbrev main_call0_call0_call0_v72 : Ref sig .tc := ⟨.hbm, 177, rfl⟩
abbrev main_call0_call0_call0_v73 : Ref sig .tc := ⟨.hbm, 178, rfl⟩
abbrev main_call0_call0_call0_v74 : Ref sig .tc := ⟨.hbm, 179, rfl⟩
abbrev main_call0_call0_call0_c_18 : Ref sig .tc := ⟨.hbm, 180, rfl⟩
abbrev main_call0_call0_call0_v75 : Ref sig .tc := ⟨.hbm, 181, rfl⟩
abbrev main_call0_call0_call0_v76 : Ref sig .tc := ⟨.hbm, 182, rfl⟩
abbrev main_call0_call0_call0_c_19 : Ref sig .tc := ⟨.hbm, 183, rfl⟩
abbrev main_call0_call0_call0_v77 : Ref sig .tc := ⟨.hbm, 184, rfl⟩
abbrev main_call0_call0_call0_v78 : Ref sig .tc := ⟨.hbm, 185, rfl⟩
abbrev main_call0_call0_call0_v79 : Ref sig .tc := ⟨.hbm, 186, rfl⟩
abbrev main_call0_call0_call0_v80 : Ref sig .tc := ⟨.hbm, 187, rfl⟩
abbrev main_call0_call0_call0_v81 : Ref sig .tc := ⟨.hbm, 188, rfl⟩
abbrev main_call0_call0_call0_c_20 : Ref sig .tc := ⟨.hbm, 189, rfl⟩
abbrev main_call0_call0_call0_v82 : Ref sig .tc := ⟨.hbm, 190, rfl⟩
abbrev main_call0_call0_call0_v83 : Ref sig .tc := ⟨.hbm, 191, rfl⟩
abbrev main_call0_call0_call0_c_21 : Ref sig .tc := ⟨.hbm, 192, rfl⟩
abbrev main_call0_call0_call0_v84 : Ref sig .tc := ⟨.hbm, 193, rfl⟩
abbrev main_call0_call0_call0_v85 : Ref sig .tc := ⟨.hbm, 194, rfl⟩
abbrev main_call0_call0_call0_v86 : Ref sig .tc := ⟨.hbm, 195, rfl⟩
abbrev main_call0_call0_call0_v87 : Ref sig .tc := ⟨.hbm, 196, rfl⟩
abbrev main_call0_call0_call0_v88 : Ref sig .tc := ⟨.hbm, 197, rfl⟩
abbrev main_call0_call0_call0_c_22 : Ref sig .tc := ⟨.hbm, 198, rfl⟩
abbrev main_call0_call0_call0_v89 : Ref sig .tc := ⟨.hbm, 199, rfl⟩
abbrev main_call0_call0_call0_v90 : Ref sig .tc := ⟨.hbm, 200, rfl⟩
abbrev main_call0_call0_call0_c_23 : Ref sig .tc := ⟨.hbm, 201, rfl⟩
abbrev main_call0_call0_call0_v91 : Ref sig .tc := ⟨.hbm, 202, rfl⟩
abbrev main_call0_call0_call0_v92 : Ref sig .tc := ⟨.hbm, 203, rfl⟩
abbrev main_call0_call0_call0_v93 : Ref sig .tc := ⟨.hbm, 204, rfl⟩
abbrev main_call0_call0_call0_v94 : Ref sig .tc := ⟨.hbm, 205, rfl⟩
abbrev main_call0_call0_call0_v95 : Ref sig .tc := ⟨.hbm, 206, rfl⟩
abbrev main_call0_call0_call0_c_24 : Ref sig .tc := ⟨.hbm, 207, rfl⟩
abbrev main_call0_call0_call0_v96 : Ref sig .tc := ⟨.hbm, 208, rfl⟩
abbrev main_call0_call0_call0_v97 : Ref sig .tc := ⟨.hbm, 209, rfl⟩
abbrev main_call0_call0_call0_c_25 : Ref sig .tc := ⟨.hbm, 210, rfl⟩
abbrev main_call0_call0_call0_v98 : Ref sig .tc := ⟨.hbm, 211, rfl⟩
abbrev main_call0_call0_call0_v99 : Ref sig .tc := ⟨.hbm, 212, rfl⟩
abbrev main_call0_call0_call0_v100 : Ref sig .tc := ⟨.hbm, 213, rfl⟩
abbrev main_call0_call0_call0_v101 : Ref sig .tc := ⟨.hbm, 214, rfl⟩
abbrev main_call0_call0_call0_v102 : Ref sig .tc := ⟨.hbm, 215, rfl⟩
abbrev main_call0_call0_call0_v103 : Ref sig .tc := ⟨.hbm, 216, rfl⟩
abbrev main_call0_call0_call0_v104 : Ref sig .tc := ⟨.hbm, 217, rfl⟩
abbrev main_call0_call0_call0_v105 : Ref sig .tc := ⟨.hbm, 218, rfl⟩
abbrev main_call0_call0_call0_c_26 : Ref sig .tc := ⟨.hbm, 219, rfl⟩
abbrev main_call0_call0_call0_v106 : Ref sig .tc := ⟨.hbm, 220, rfl⟩
abbrev main_call0_call0_call0_v107 : Ref sig .tc := ⟨.hbm, 221, rfl⟩
abbrev main_call0_call0_call0_v108 : Ref sig .tc := ⟨.hbm, 222, rfl⟩
abbrev main_call0_call0_call0_c_27 : Ref sig .tc := ⟨.hbm, 223, rfl⟩
abbrev main_call0_call0_call0_v109 : Ref sig .tc := ⟨.hbm, 224, rfl⟩
abbrev main_call0_call0_call0_v110 : Ref sig .tc := ⟨.hbm, 225, rfl⟩
abbrev main_call0_call0_call0_c_28 : Ref sig .tc := ⟨.hbm, 226, rfl⟩
abbrev main_call0_call0_call0_v111 : Ref sig .tc := ⟨.hbm, 227, rfl⟩
abbrev main_call0_call0_call0_v112 : Ref sig .tc := ⟨.hbm, 228, rfl⟩
abbrev main_call0_call0_call0_v113 : Ref sig .tc := ⟨.hbm, 229, rfl⟩
abbrev main_call0_call0_call0_v114 : Ref sig .tc := ⟨.hbm, 230, rfl⟩
abbrev main_call0_call0_call0_v115 : Ref sig .tc := ⟨.hbm, 231, rfl⟩
abbrev main_call0_call0_call0_c_29 : Ref sig .tc := ⟨.hbm, 232, rfl⟩
abbrev main_call0_call0_call0_v116 : Ref sig .tc := ⟨.hbm, 233, rfl⟩
abbrev main_call0_call0_call0_v117 : Ref sig .tc := ⟨.hbm, 234, rfl⟩
abbrev main_call0_call0_call0_c_30 : Ref sig .tc := ⟨.hbm, 235, rfl⟩
abbrev main_call0_call0_call0_v118 : Ref sig .tc := ⟨.hbm, 236, rfl⟩
abbrev main_call0_call0_call0_v119 : Ref sig .tc := ⟨.hbm, 237, rfl⟩
abbrev main_call0_call0_call0_v120 : Ref sig .tc := ⟨.hbm, 238, rfl⟩
abbrev main_call0_call0_call0_v121 : Ref sig .tc := ⟨.hbm, 239, rfl⟩
abbrev main_call0_call0_call0_v122 : Ref sig .tc := ⟨.hbm, 240, rfl⟩
abbrev main_call0_call0_call0_c_31 : Ref sig .tc := ⟨.hbm, 241, rfl⟩
abbrev main_call0_call0_call0_v123 : Ref sig .tc := ⟨.hbm, 242, rfl⟩
abbrev main_call0_call0_call0_v124 : Ref sig .tc := ⟨.hbm, 243, rfl⟩
abbrev main_call0_call0_call0_c_32 : Ref sig .tc := ⟨.hbm, 244, rfl⟩
abbrev main_call0_call0_call0_v125 : Ref sig .tc := ⟨.hbm, 245, rfl⟩
abbrev main_call0_call0_call0_v126 : Ref sig .tc := ⟨.hbm, 246, rfl⟩
abbrev main_call0_call0_call0_v127 : Ref sig .tc := ⟨.hbm, 247, rfl⟩
abbrev main_call0_call0_call0_v128 : Ref sig .tc := ⟨.hbm, 248, rfl⟩
abbrev main_call0_call0_call0_v129 : Ref sig .tc := ⟨.hbm, 249, rfl⟩
abbrev main_call0_call0_call0_c_33 : Ref sig .tc := ⟨.hbm, 250, rfl⟩
abbrev main_call0_call0_call0_v130 : Ref sig .tc := ⟨.hbm, 251, rfl⟩
abbrev main_call0_call0_call0_v131 : Ref sig .tc := ⟨.hbm, 252, rfl⟩
abbrev main_call0_call0_call0_c_34 : Ref sig .tc := ⟨.hbm, 253, rfl⟩
abbrev main_call0_call0_call0_v132 : Ref sig .tc := ⟨.hbm, 254, rfl⟩
abbrev main_call0_call0_call0_v133 : Ref sig .tc := ⟨.hbm, 255, rfl⟩
abbrev main_call0_call0_call0_v134 : Ref sig .tc := ⟨.hbm, 256, rfl⟩
abbrev main_call0_call0_call0_v135 : Ref sig .tc := ⟨.hbm, 257, rfl⟩
abbrev main_call0_call0_call0_v136 : Ref sig .tc := ⟨.hbm, 258, rfl⟩
abbrev main_call0_call0_call0_v137 : Ref sig .tc := ⟨.hbm, 259, rfl⟩
abbrev main_call0_call0_call0_v138 : Ref sig .tc := ⟨.hbm, 260, rfl⟩
abbrev main_call0_call0_call0_v139 : Ref sig .tc := ⟨.hbm, 261, rfl⟩
abbrev main_call0_call0_call0_c_35 : Ref sig .tc := ⟨.hbm, 262, rfl⟩
abbrev main_call0_call0_call0_v140 : Ref sig .tc := ⟨.hbm, 263, rfl⟩
abbrev main_call0_call0_call0_v141 : Ref sig .tc := ⟨.hbm, 264, rfl⟩
abbrev main_call0_call0_call0_v142 : Ref sig .tc := ⟨.hbm, 265, rfl⟩
abbrev main_call0_call0_call0_c_36 : Ref sig .tc := ⟨.hbm, 266, rfl⟩
abbrev main_call0_call0_call0_v143 : Ref sig .tc := ⟨.hbm, 267, rfl⟩
abbrev main_call0_call0_call0_v144 : Ref sig .tc := ⟨.hbm, 268, rfl⟩
abbrev main_call0_call0_call0_c_37 : Ref sig .tc := ⟨.hbm, 269, rfl⟩
abbrev main_call0_call0_call0_v145 : Ref sig .tc := ⟨.hbm, 270, rfl⟩
abbrev main_call0_call0_call0_v146 : Ref sig .tc := ⟨.hbm, 271, rfl⟩
abbrev main_call0_call0_call0_v147 : Ref sig .tc := ⟨.hbm, 272, rfl⟩
abbrev main_call0_call0_call0_v148 : Ref sig .tc := ⟨.hbm, 273, rfl⟩
abbrev main_call0_call0_call0_v149 : Ref sig .tc := ⟨.hbm, 274, rfl⟩
abbrev main_call0_call0_call0_c_38 : Ref sig .tc := ⟨.hbm, 275, rfl⟩
abbrev main_call0_call0_call0_v150 : Ref sig .tc := ⟨.hbm, 276, rfl⟩
abbrev main_call0_call0_call0_v151 : Ref sig .tc := ⟨.hbm, 277, rfl⟩
abbrev main_call0_call0_call0_c_39 : Ref sig .tc := ⟨.hbm, 278, rfl⟩
abbrev main_call0_call0_call0_v152 : Ref sig .tc := ⟨.hbm, 279, rfl⟩
abbrev main_call0_call0_call0_v153 : Ref sig .tc := ⟨.hbm, 280, rfl⟩
abbrev main_call0_call0_call0_v154 : Ref sig .tc := ⟨.hbm, 281, rfl⟩
abbrev main_call0_call0_call0_v155 : Ref sig .tc := ⟨.hbm, 282, rfl⟩
abbrev main_call0_call0_call0_v156 : Ref sig .tc := ⟨.hbm, 283, rfl⟩
abbrev main_call0_call0_call0_c_40 : Ref sig .tc := ⟨.hbm, 284, rfl⟩
abbrev main_call0_call0_call0_v157 : Ref sig .tc := ⟨.hbm, 285, rfl⟩
abbrev main_call0_call0_call0_v158 : Ref sig .tc := ⟨.hbm, 286, rfl⟩
abbrev main_call0_call0_call0_c_41 : Ref sig .tc := ⟨.hbm, 287, rfl⟩
abbrev main_call0_call0_call0_v159 : Ref sig .tc := ⟨.hbm, 288, rfl⟩
abbrev main_call0_call0_call0_v160 : Ref sig .tc := ⟨.hbm, 289, rfl⟩
abbrev main_call0_call0_call0_v161 : Ref sig .tc := ⟨.hbm, 290, rfl⟩
abbrev main_call0_call0_call0_v162 : Ref sig .tc := ⟨.hbm, 291, rfl⟩
abbrev main_call0_call0_call0_v163 : Ref sig .tc := ⟨.hbm, 292, rfl⟩
abbrev main_call0_call0_call0_c_42 : Ref sig .tc := ⟨.hbm, 293, rfl⟩
abbrev main_call0_call0_call0_v164 : Ref sig .tc := ⟨.hbm, 294, rfl⟩
abbrev main_call0_call0_call0_v165 : Ref sig .tc := ⟨.hbm, 295, rfl⟩
abbrev main_call0_call0_call0_c_43 : Ref sig .tc := ⟨.hbm, 296, rfl⟩
abbrev main_call0_call0_call0_v166 : Ref sig .tc := ⟨.hbm, 297, rfl⟩
abbrev main_call0_call0_call0_v167 : Ref sig .tc := ⟨.hbm, 298, rfl⟩
abbrev main_call0_call0_call0_v168 : Ref sig .tc := ⟨.hbm, 299, rfl⟩
abbrev main_call0_call0_call0_v169 : Ref sig .tc := ⟨.hbm, 300, rfl⟩
abbrev main_call0_call0_call0_v170 : Ref sig .tc := ⟨.hbm, 301, rfl⟩
abbrev main_call0_call0_v18_0 : Ref sig .tc := ⟨.hbm, 302, rfl⟩
abbrev main_call0_call0_call0_v172 : Ref sig .tc := ⟨.hbm, 303, rfl⟩
abbrev main_call0_call0_call0_v173 : Ref sig .tc := ⟨.hbm, 304, rfl⟩
abbrev main_call0_call0_call0_c_44 : Ref sig .tc := ⟨.hbm, 305, rfl⟩
abbrev main_call0_call0_call0_v174 : Ref sig .tc := ⟨.hbm, 306, rfl⟩
abbrev main_call0_call0_v18_1 : Ref sig .tc := ⟨.hbm, 307, rfl⟩
abbrev main_call0_call0_v19 : Ref sig .tc := ⟨.hbm, 308, rfl⟩
abbrev main_call0_call0_c_2 : Ref sig .tc := ⟨.hbm, 309, rfl⟩
abbrev main_call0_call0_v20 : Ref sig .tc := ⟨.hbm, 310, rfl⟩
abbrev main_call0_call0_v21 : Ref sig .tc := ⟨.hbm, 311, rfl⟩
abbrev main_call0_call0_c_3 : Ref sig .tc := ⟨.hbm, 312, rfl⟩
abbrev main_call0_call0_v22 : Ref sig .tc := ⟨.hbm, 313, rfl⟩
abbrev main_call0_call0_v23 : Ref sig .tc := ⟨.hbm, 314, rfl⟩
abbrev main_call0_call0_v24 : Ref sig .tc := ⟨.hbm, 315, rfl⟩
abbrev main_call0_call0_cst : Ref sig .tc := ⟨.hbm, 316, rfl⟩
abbrev main_call0_call0_v25 : Ref sig .tc := ⟨.hbm, 317, rfl⟩
abbrev main_call0_call0_v26 : Ref sig .tc := ⟨.hbm, 318, rfl⟩
abbrev main_call0_call0_v27 : Ref sig .tc := ⟨.hbm, 319, rfl⟩
abbrev main_call0_call0_v28 : Ref sig .tc := ⟨.hbm, 320, rfl⟩
abbrev main_call0_call0_v29 : Ref sig .tc := ⟨.hbm, 321, rfl⟩
abbrev main_call0_call0_v30 : Ref sig .tc := ⟨.hbm, 322, rfl⟩
abbrev main_call0_call0_v31 : Ref sig .tc := ⟨.hbm, 323, rfl⟩
abbrev main_call0_call0_v32 : Ref sig .tc := ⟨.hbm, 324, rfl⟩
abbrev main_call0_v0 : Ref sig .tc := ⟨.hbm, 325, rfl⟩
abbrev main_call0_v1 : Ref sig .tc := ⟨.hbm, 326, rfl⟩
abbrev main_call0_v2 : Ref sig .tc := ⟨.hbm, 327, rfl⟩
abbrev main_call0_v3 : Ref sig .tc := ⟨.hbm, 328, rfl⟩
abbrev main_v44 : Ref sig .tc := ⟨.hbm, 329, rfl⟩
abbrev main_v45 : Ref sig .tc := ⟨.hbm, 330, rfl⟩
abbrev main_cst_4 : Ref sig .tc := ⟨.hbm, 331, rfl⟩
abbrev main_v46 : Ref sig .tc := ⟨.hbm, 332, rfl⟩
abbrev main_v47 : Ref sig .tc := ⟨.hbm, 333, rfl⟩
abbrev main_values : Ref sig .tc := ⟨.hbm, 334, rfl⟩
abbrev main_indices : Ref sig .tc := ⟨.hbm, 335, rfl⟩
abbrev main_c_5 : Ref sig .tc := ⟨.hbm, 336, rfl⟩
abbrev main_v48 : Ref sig .tc := ⟨.hbm, 337, rfl⟩
abbrev main_c_6 : Ref sig .tc := ⟨.hbm, 338, rfl⟩
abbrev main_v49 : Ref sig .tc := ⟨.hbm, 339, rfl⟩
abbrev main_v50 : Ref sig .tc := ⟨.hbm, 340, rfl⟩
abbrev main_c_7 : Ref sig .tc := ⟨.hbm, 341, rfl⟩
abbrev main_v51 : Ref sig .tc := ⟨.hbm, 342, rfl⟩
abbrev main_v52 : Ref sig .tc := ⟨.hbm, 343, rfl⟩
abbrev main_v53 : Ref sig .tc := ⟨.hbm, 344, rfl⟩

abbrev nD : Nat := 1
abbrev τ : Topo := Topo.v7x

variable {F : FTy → Type} [FloatOps F]
-- ==== Proof.KernelFrame.lean ====
/-
  The kernel terminates with its arguments unchanged and every counter at zero. Nothing is said here of what the
  scratch and the output hold, so one triple of the body, from any contents to some contents, serves every point.
-/
module

public import proofs.«01_k».proof.Proof.KernelConds
public import proofs.«01_k».proof.Proof.Gen.Kernel.Skeleton
public import proofs.«01_k».proof.Proof.Gen.Kernel.Frame
public import Idealize.ShloMosaic.Lib.Claim

@[expose] public section

set_option maxRecDepth 16384

noncomputable section

namespace Cert.Kernel.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The body, on any contents of the output and the scratch. -/
theorem body_any (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (h01 : cond0_0 i → ¬ cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc0 : cond0_0 i
  all_goals by_cases hc1 : cond0_1 i
  · exact absurd hc1 (h01 hc0)
  all_goals
      simp only [cc0__fused_kernel_eq_skeleton]; unfold cc0__fused_kernel_skel
      simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; iexists _; isplitr; swap; · iexact H17
        ipureintro; rfl
      isplitl [HS0]
      · iexists _; iexists _; isplitr; swap; · iexact HS0
        ipureintro; rfl
      iexists _; iexists _; isplitr; swap; · iexact HS1
      ipureintro; rfl

variable (m : (ℓ : Loc nD τ sig) → Buf (Elt F) ℓ) (ρ : Dev nD → PrngReg)

/-- The output is left unnamed. -/
def forgets : Fin 18 → Bool := fun w => w.val == 17

/-- The proof data: each input's buffer at its block, the output unnamed, the launch's own invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem leaves_8 (c : Dev nD) (t : Fin cfg0.N) : (dats m 0 c).leavesExact 8 t = owns (c : Thread nD τ) (ms0_8 t) fullShare (iblk m c 8 t) := by
  unfold Dat.leavesExact; rw [liveAt0_8 t, after_8]
theorem leaves_9 (c : Dev nD) (t : Fin cfg0.N) : (dats m 0 c).leavesExact 9 t = owns (c : Thread nD τ) (ms0_9 t) fullShare (iblk m c 9 t) := by
  unfold Dat.leavesExact; rw [liveAt0_9 t, after_9]
theorem leaves_10 (c : Dev nD) (t : Fin cfg0.N) : (dats m 0 c).leavesExact 10 t = owns (c : Thread nD τ) (ms0_10 t) fullShare (iblk m c 10 t) := by
  unfold Dat.leavesExact; rw [liveAt0_10 t, after_10]
theorem leaves_11 (c : Dev nD) (t : Fin cfg0.N) : (dats m 0 c).leavesExact 11 t = owns (c : Thread nD τ) (ms0_11 t) fullShare (iblk m c 11 t) := by
  unfold Dat.leavesExact; rw [liveAt0_11 t, after_11]
theorem leaves_12 (c : Dev nD) (t : Fin cfg0.N) : (dats m 0 c).leavesExact 12 t = owns (c : Thread nD τ) (ms0_12 t) fullShare (iblk m c 12 t) := by
  unfold Dat.leavesExact; rw [liveAt0_12 t, after_12]
theorem leaves_13 (c : Dev nD) (t : Fin cfg0.N) : (dats m 0 c).leavesExact 13 t = owns (c : Thread nD τ) (ms0_13 t) fullShare (iblk m c 13 t) := by
  unfold Dat.leavesExact; rw [liveAt0_13 t, after_13]
theorem leaves_14 (c : Dev nD) (t : Fin cfg0.N) : (dats m 0 c).leavesExact 14 t = owns (c : Thread nD τ) (ms0_14 t) fullShare (iblk m c 14 t) := by
  unfold Dat.leavesExact; rw [liveAt0_14 t, after_14]
theorem leaves_15 (c : Dev nD) (t : Fin cfg0.N) : (dats m 0 c).leavesExact 15 t = owns (c : Thread nD τ) (ms0_15 t) fullShare (iblk m c 15 t) := by
  unfold Dat.leavesExact; rw [liveAt0_15 t, after_15]
theorem leaves_16 (c : Dev nD) (t : Fin cfg0.N) : (dats m 0 c).leavesExact 16 t = owns (c : Thread nD τ) (ms0_16 t) fullShare (iblk m c 16 t) := by
  unfold Dat.leavesExact; rw [liveAt0_16 t, after_16]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (∃ d, owns (c : Thread nD τ) (ms0_17 t) fullShare d))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17⟩
  iapply body_any c (grid0.coords t) _ _ _ _ _ _ _ _ _ _ _ _ _ _ _ _ _ _ _ _ _ _ _ _ _ _ _ _ _ _ _ _ _ _ _ _ _ _ _ _ (fun h0 h1 => by
    have h0' := (hcond0_0 t).mp h0
    have h1' := (hcond0_1 t).mp h1
    omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  iintro ⟨H0, H1, H2, H3, H4, H5, H6, H7, H8, H9, H10, H11, H12, H13, H14, H15, H16, H17, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The run. -/
theorem run : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

end Cert.Kernel.Ours
-- ==== Proof.KernelEnd.lean ====
/-
  The end of the plain kernel's run: the arguments as they were.
-/
module

public import proofs.«01_k».proof.Proof.KernelFrame

@[expose] public section

noncomputable section

namespace Cert.Kernel.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] (m : (ℓ : Loc nD τ sig) → Buf (Elt F) ℓ) (ρ : Dev nD → PrngReg)

/-- An input's array holds at the end what it held when the launch began. -/
theorem input_kept (c : Dev nD) (w : Fin cfg0.W) (hin : (cfg0.win w).isOut = false) (X)
    (h : ((dats (F := F) m 0 c).toRForget forgets).ArrAt w cfg0.N X) : X = V m c (Pipeline.arrRef spec0 w) := by
  rw [Pipeline.RDat.ArrAt_in _ w hin] at h
  exact Eq.trans h (A_eq m c w)

/-- The arguments end unchanged and every counter at zero. -/
theorem frame_zero : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) ∧ r.2.sem = fun _ => 0) := by
  refine (θ_run defs _ _).mono (fun r h => ⟨fun c => ?_, h.2⟩) (run m ρ)
  have hw := (h.1 c).1
  have hr := (h.1 c).2
  exact ⟨(input_kept m c 8 rfl _ (hw 8)).trans (V_main_arg0 m c),
    (input_kept m c 0 rfl _ (hw 0)).trans (V_main_arg1 m c),
    (input_kept m c 1 rfl _ (hw 1)).trans (V_main_arg2 m c),
    (hr main_arg3 (Pipeline.mem_restRefs_of main_arg3 (by decide) (by decide))).trans (V_main_arg3 m c),
    (input_kept m c 3 rfl _ (hw 3)).trans (V_main_arg4 m c),
    (hr main_arg5 (Pipeline.mem_restRefs_of main_arg5 (by decide) (by decide))).trans (V_main_arg5 m c),
    (hr main_arg6 (Pipeline.mem_restRefs_of main_arg6 (by decide) (by decide))).trans (V_main_arg6 m c),
    (hr main_arg7 (Pipeline.mem_restRefs_of main_arg7 (by decide) (by decide))).trans (V_main_arg7 m c),
    (hr main_arg8 (Pipeline.mem_restRefs_of main_arg8 (by decide) (by decide))).trans (V_main_arg8 m c),
    (hr main_arg9 (Pipeline.mem_restRefs_of main_arg9 (by decide) (by decide))).trans (V_main_arg9 m c),
    (hr main_arg10 (Pipeline.mem_restRefs_of main_arg10 (by decide) (by decide))).trans (V_main_arg10 m c),
    (input_kept m c 16 rfl _ (hw 16)).trans (V_main_arg11 m c),
    (hr main_arg12 (Pipeline.mem_restRefs_of main_arg12 (by decide) (by decide))).trans (V_main_arg12 m c)⟩

end Cert.Kernel.Ours
-- ==== Proof.Conds.lean ====
/-
  Where the grid stands: the body's two conditions, the points where the windows are live, and the
  staging buffers the body is given.
-/
module

public import proofs.«01_k».proof.Proof.Gen.KernelIdeal.Frame
public import proofs.«01_k».proof.Proof.Gen.KernelIdeal.Skeleton

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S16x16 .i32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S16x256 .f32 := Memref.whole cc0_scratch0
abbrev scM0_1 : Memref sig .tc .vmem S16x2048 .f32 := Memref.whole cc0_scratch1
/-- The scratch `arg19` the kernel carries between points, as a view: what it holds is stated through it. -/
abbrev VS0_0 : View sig .tc .vmem S16x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Ours

end
-- ==== Proof.RunA.lean ====
/-
  The body at the first grid point: it fills both scratch buffers; the pieces it stores are found by running it.
-/
module

public import proofs.«01_k».proof.Proof.Gen.KernelIdeal.Frame
public import proofs.«01_k».proof.Proof.Gen.KernelIdeal.Skeleton
public import proofs.«01_k».proof.Proof.Conds

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- At the first point: what the stores leave in the condition buffer and in the score buffer. -/
def runA (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (ys : Vec F S16x2048 .f32) :
    { L : List (View.Piece (Elt F) S16x256 .f32) × List (View.Piece (Elt F) S16x2048 .f32) //
      ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg19 fullShare d) ∗ owns (c : Thread nD τ) arg20 fullShare ys
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg19.view.loc (c : Thread nD τ) ↦[arg19.view.set]{fullShare} arg19.view.writes (Elt F) f L.1) ∗ owns (c : Thread nD τ) arg20 fullShare (arg20.view.read (Elt F) (arg20.view.writes (Elt F) (harg20.unread ys) L.2))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, ?_⟩, fun E K => ?run⟩
  case run =>
  simp only [cc0__fused_kernel_eq_skeleton]; unfold cc0__fused_kernel_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [HS0]; · iexists _; iexact HS0
  iexists _; isplitr; swap; · iexact HS1
  ipureintro; rfl

end Cert.KernelIdeal.Ours
-- ==== Proof.Pick.lean ====
/-
  What the kernel's body computes, as terms: one slice of scores, and the output selected from all the scores.
-/
module

public import proofs.«01_k».proof.Proof.Gen.KernelIdeal.Skeleton

@[expose] public section

noncomputable section

namespace Cert.KernelIdeal.Ours

open Idealize.ShloMosaic
open Cert.KernelIdeal Cert.KernelIdeal.Gen

variable {F : FTy → Type} [FloatOps F]

/-- One slice of scores: from the windows `7` to `16` and the condition. -/
def slab (x7 : Vec F S1x1 .f32) (x8 : Vec F S16x256x256 .f32) (x9 : Vec F S256x256 .f32) (x10 : Vec F S16x256 .f32)
    (x11 x12 x13 x14 : Vec F S256x256 .f32) (x15 : Vec F S1x256 .f32) (x16 : Vec F S256x1 .f32) (cond : Vec F S16x256 .f32) :
    Vec F S16x256 .f32 :=
  k0_pay1 (k0_pay68 x8 x9 x11 cond x12 x13 x14) x15 x16 x10 x7

/-- The column numbers. -/
def cols : IVec S16x2048 32 := iota .tc S16x2048 32 [1] iota_S16x2048_d1_w32

/-- The scores after four rounds: the first of the two values the next rounds read. -/
def after4 (Y : Vec F S16x2048 .f32) : FVec F S16x2048 .f32 := k0_pay17 cols (k0_pay8 Y) (k0_pay9 Y)
/-- The second. -/
def after4' (Y : Vec F S16x2048 .f32) : FVec F S16x2048 .f32 := k0_pay18 cols (k0_pay8 Y) (k0_pay9 Y)
/-- The scores before the last rounds. -/
def after11 (Y : Vec F S16x2048 .f32) : FVec F S16x2048 .f32 := k0_pay26 cols (after4 Y) (after4' Y)

/-- The sixteen columns to be sorted: the first frame, the fourteen picks, the last frame. -/
def stack (Y : Vec F S16x2048 .f32) (j : Fin 16) : IVec S16x1 32 :=
  match j.val with
  | 0 => k0_pay30
  | 1 => k0_pay31 (k0_pay3 Y)
  | 2 => k0_pay32 (k0_pay5 Y)
  | 3 => k0_pay33 (k0_pay7 Y)
  | 4 => k0_pay34 (k0_pay10 (k0_pay9 Y))
  | 5 => k0_pay35 (k0_pay12 cols (k0_pay8 Y) (k0_pay9 Y))
  | 6 => k0_pay36 (k0_pay14 cols (k0_pay8 Y) (k0_pay9 Y))
  | 7 => k0_pay37 (k0_pay16 cols (k0_pay8 Y) (k0_pay9 Y))
  | 8 => k0_pay38 (k0_pay19 cols (after4 Y) (after4' Y))
  | 9 => k0_pay39 (k0_pay21 cols (after4 Y) (after4' Y))
  | 10 => k0_pay40 (k0_pay23 cols (after4 Y) (after4' Y))
  | 11 => k0_pay41 (k0_pay25 cols (after4 Y) (after4' Y))
  | 12 => k0_pay42 cols (after11 Y)
  | 13 => k0_pay43 cols (after11 Y)
  | 14 => k0_pay44 cols (after11 Y)
  | _ => k0_pay45

/-- The columns side by side. -/
def joined (s : Fin 16 → IVec S16x1 32) : IVec S16x16 32 :=
  k0_pay46 (s 0) (s 1) (s 2) (s 3) (s 4) (s 5) (s 6) (s 7) (s 8) (s 9) (s 10) (s 11) (s 12) (s 13) (s 14) (s 15)

/-- Each entry's rank in its row. -/
def ranks (s : Fin 16 → IVec S16x1 32) : IVec S16x16 32 :=
  k0_pay49 (joined s)
    (k0_pay47 (s 0) (s 1) (s 2) (s 3) (s 4) (s 5) (s 6) (s 7) (s 8) (s 9) (s 10) (s 11) (s 12) (s 13) (s 14) (s 15))
    (k0_pay48 (s 0) (s 1) (s 2) (s 3) (s 4) (s 5) (s 6) (s 7) (s 8) (s 9) (s 10) (s 11) (s 12) (s 13) (s 14) (s 15))

/-- Where the rank is `0`. -/
def first (s : Fin 16 → IVec S16x1 32) : IVec S16x16 1 :=
  k0_pay50 (joined s)
    (k0_pay47 (s 0) (s 1) (s 2) (s 3) (s 4) (s 5) (s 6) (s 7) (s 8) (s 9) (s 10) (s 11) (s 12) (s 13) (s 14) (s 15))
    (k0_pay48 (s 0) (s 1) (s 2) (s 3) (s 4) (s 5) (s 6) (s 7) (s 8) (s 9) (s 10) (s 11) (s 12) (s 13) (s 14) (s 15))

/-- The output from the sixteen columns. -/
def sorted (s : Fin 16 → IVec S16x1 32) : IVec S16x16 32 :=
  k0_pay2 (joined s) (ranks s) (k0_pay52 (joined s) (first s) k0_pay51) (k0_pay53 (joined s) (ranks s)) (k0_pay54 (joined s) (ranks s))
    (k0_pay55 (joined s) (ranks s)) (k0_pay56 (joined s) (ranks s)) (k0_pay57 (joined s) (ranks s)) (k0_pay58 (joined s) (ranks s))
    (k0_pay60 (joined s) (ranks s) k0_pay59) (k0_pay61 (joined s) (ranks s)) (k0_pay62 (joined s) (ranks s)) (k0_pay63 (joined s) (ranks s))
    (k0_pay64 (joined s) (ranks s)) (k0_pay65 (joined s) (ranks s)) (k0_pay66 (joined s) (ranks s))

/-- The output from all the scores. -/
def lastOut (Y : Vec F S16x2048 .f32) : IVec S16x16 32 := sorted (stack Y)

end Cert.KernelIdeal.Ours
-- ==== Proof.BodyKit.lean ====
/-
  Reading whole buffers, and the body's terms at equal windows.
-/
module

public import proofs.«01_k».proof.Proof.Conds
public import proofs.«01_k».proof.Proof.Pick
public import Idealize.ShloMosaic.Lib.VecWindow

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A load of a whole buffer that holds `x` reads `x`. -/
theorem ld {s : Shape} {e : EltTy} {a : Memref sig .tc .vmem s e} (ha : a.IsWhole) (x : s.Idx → Elt F e)
    {off : Fin s.rank → ℕ} (inb : ∀ k, off k + s.size k ≤ s.size k) :
    View.readAt (Elt F) a.view (Rect.unit off s.size inb).toLoadRect (ha.unread x) = x :=
  (View.readAt_full _ _ inb).trans (ha.read_unread x)

/-- Equal windows give equal slices. -/
theorem slab_congr {x7 x7' : Vec F S1x1 .f32} {x8 x8' : Vec F S16x256x256 .f32} {x9 x9' : Vec F S256x256 .f32}
    {x10 x10' : Vec F S16x256 .f32} {x11 x11' x12 x12' x13 x13' x14 x14' : Vec F S256x256 .f32}
    {x15 x15' : Vec F S1x256 .f32} {x16 x16' : Vec F S256x1 .f32} {k k' : Vec F S16x256 .f32}
    (h7 : x7 = x7') (h8 : x8 = x8') (h9 : x9 = x9') (h10 : x10 = x10') (h11 : x11 = x11') (h12 : x12 = x12')
    (h13 : x13 = x13') (h14 : x14 = x14') (h15 : x15 = x15') (h16 : x16 = x16') (hk : k = k') :
    k0_pay1 (k0_pay68 x8 x9 x11 k x12 x13 x14) x15 x16 x10 x7 = slab x7' x8' x9' x10' x11' x12' x13' x14' x15' x16' k' := by
  subst h7 h8 h9 h10 h11 h12 h13 h14 h15 h16 hk; rfl

/-- Equal windows give equal conditions. -/
theorem cond_congr {x0 x0' : Vec F S16x2 .f32} {x1 x1' : Vec F S2x512 .f32} {x2 x2' : Vec F S1x512 .f32}
    {x3 x3' : Vec F S512x256 .f32} {x4 x4' : Vec F S1x256 .f32} {x5 x5' : Vec F S256x256 .f32} {x6 x6' : Vec F S1x256 .f32}
    (h0 : x0 = x0') (h1 : x1 = x1') (h2 : x2 = x2') (h3 : x3 = x3') (h4 : x4 = x4') (h5 : x5 = x5') (h6 : x6 = x6') :
    k0_pay67 x0 x1 x2 x3 x4 x5 x6 = k0_pay67 x0' x1' x2' x3' x4' x5' x6' := by
  subst h0 h1 h2 h3 h4 h5 h6; rfl

end Cert.KernelIdeal.Ours
-- ==== Proof.BodyA.lean ====
/-
  The body at the first grid point, with what it stores named.
-/
module

public import proofs.«01_k».proof.Proof.RunA
public import proofs.«01_k».proof.Proof.BodyKit
public import proofs.«01_k».proof.Proof.Pick
public import Idealize.ShloMosaic.Lib.VecWindow

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The slice stored at this point. -/
theorem sliceA (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (ys : Vec F S16x2048 .f32) :
    arg20.view.read (Elt F) (arg20.view.writes (Elt F) (harg20.unread ys) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 ys).1.2)
      = (VecWindow.put ys (k0_off1 i) S16x256.size (slab x7 x8 x9 x10 x11 x12 x13 x14 x15 x16 (k0_pay67 x0 x1 x2 x3 x4 x5 x6))) := by
  refine (View.read_writes_cons_put _ _ _ _ [] rfl).trans ?_
  refine congrArg₂ (fun (y : Vec F S16x2048 .f32) (w : Vec F S16x256 .f32) => VecWindow.put y (k0_off1 i) S16x256.size w) (harg20.read_unread ys) ?_
  exact slab_congr (ld harg8 x7 _) (ld harg9 x8 _) (ld harg10 x9 _) (ld harg11 x10 _) (ld harg12 x11 _) (ld harg13 x12 _) (ld harg14 x13 _) (ld harg15 x14 _) (ld harg16 x15 _) (ld harg17 x16 _) (View.readCov_full _ _ _ _ _ |>.trans (cond_congr (ld harg1 x0 _) (ld harg2 x1 _) (ld harg3 x2 _) (ld harg4 x3 _) (ld harg5 x4 _) (ld harg6 x5 _) (ld harg7 x6 _)))

set_option maxHeartbeats 1000000 in
/-- The condition stored at the first point. -/
theorem condA (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (ys : Vec F S16x2048 .f32) (f : arg19.view.ty.Contents (Elt F)) :
    arg19.view.read (Elt F) (arg19.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 ys).1.1) = (k0_pay67 x0 x1 x2 x3 x4 x5 x6) :=
  (View.read_writes_full _ _ _ _ []).trans (cond_congr (ld harg1 x0 _) (ld harg2 x1 _) (ld harg3 x2 _) (ld harg4 x3 _) (ld harg5 x4 _) (ld harg6 x5 _) (ld harg7 x6 _))

set_option maxHeartbeats 1000000 in
/-- The body at the first point: the condition and the first slice. -/
theorem bodyA (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (ys : Vec F S16x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg19 fullShare d) ∗ owns (c : Thread nD τ) arg20 fullShare ys
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg19 fullShare (k0_pay67 x0 x1 x2 x3 x4 x5 x6) ∗ owns (c : Thread nD τ) arg20 fullShare (VecWindow.put ys (k0_off1 i) S16x256.size (slab x7 x8 x9 x10 x11 x12 x13 x14 x15 x16 (k0_pay67 x0 x1 x2 x3 x4 x5 x6)))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, HS0, HS1, Hk⟩
  iapply (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 ys).2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]
  · icases HS0 with ⟨%f, HS0⟩
    unfold owns; iexists _; isplitr; swap; · iexact HS0
    ipureintro; exact condA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 ys f
  rw [sliceA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 ys]
  iexact HS1

end Cert.KernelIdeal.Ours
-- ==== Proof.RunB.lean ====
/-
  The body at a middle grid point: it fills its slice of the scores; the piece it stores is found by running it.
-/
module

public import proofs.«01_k».proof.Proof.Gen.KernelIdeal.Frame
public import proofs.«01_k».proof.Proof.Gen.KernelIdeal.Skeleton
public import proofs.«01_k».proof.Proof.Conds

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- At a middle point: what the store leaves in the score buffer (the first list is empty). -/
def runB (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32) :
    { L : List (View.Piece (Elt F) S16x256 .f32) × List (View.Piece (Elt F) S16x2048 .f32) //
      ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg19 fullShare xs0 ∗ owns (c : Thread nD τ) arg20 fullShare ys
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg19 fullShare xs0 ∗ owns (c : Thread nD τ) arg20 fullShare (arg20.view.read (Elt F) (arg20.view.writes (Elt F) (harg20.unread ys) L.2))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨[], ?_⟩, fun E K => ?run⟩
  case run =>
  simp only [cc0__fused_kernel_eq_skeleton]; unfold cc0__fused_kernel_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hfs0; obtain rfl := harg20.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [HS0]
  · iexists _; isplitr; · ipureintro; exact harg19.read_unread _
    iexact HS0
  iexists _; isplitr; swap; · iexact HS1
  ipureintro; rfl

end Cert.KernelIdeal.Ours
-- ==== Proof.BodyB.lean ====
/-
  The body at the middle grid point, with what it stores named.
-/
module

public import proofs.«01_k».proof.Proof.RunB
public import proofs.«01_k».proof.Proof.BodyKit
public import proofs.«01_k».proof.Proof.Pick
public import Idealize.ShloMosaic.Lib.VecWindow

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The slice stored at this point. -/
theorem sliceB (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32) :
    arg20.view.read (Elt F) (arg20.view.writes (Elt F) (harg20.unread ys) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys).1.2)
      = (VecWindow.put ys (k0_off1 i) S16x256.size (slab x7 x8 x9 x10 x11 x12 x13 x14 x15 x16 xs0)) := by
  refine (View.read_writes_cons_put _ _ _ _ [] rfl).trans ?_
  refine congrArg₂ (fun (y : Vec F S16x2048 .f32) (w : Vec F S16x256 .f32) => VecWindow.put y (k0_off1 i) S16x256.size w) (harg20.read_unread ys) ?_
  exact slab_congr (ld harg8 x7 _) (ld harg9 x8 _) (ld harg10 x9 _) (ld harg11 x10 _) (ld harg12 x11 _) (ld harg13 x12 _) (ld harg14 x13 _) (ld harg15 x14 _) (ld harg16 x15 _) (ld harg17 x16 _) (ld harg19 xs0 _)

set_option maxHeartbeats 1000000 in
/-- The body at a middle point: its slice. -/
theorem bodyB (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : ¬cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg19 fullShare xs0 ∗ owns (c : Thread nD τ) arg20 fullShare ys
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg19 fullShare xs0 ∗ owns (c : Thread nD τ) arg20 fullShare (VecWindow.put ys (k0_off1 i) S16x256.size (slab x7 x8 x9 x10 x11 x12 x13 x14 x15 x16 xs0))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, HS0, HS1, Hk⟩
  iapply (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys).2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  rw [sliceB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys]
  iexact HS1

end Cert.KernelIdeal.Ours
-- ==== Proof.RunC.lean ====
/-
  The body at the last grid point: it fills the last slice, then selects; the pieces it stores are found by running it.
-/
module

public import proofs.«01_k».proof.Proof.Gen.KernelIdeal.Frame
public import proofs.«01_k».proof.Proof.Gen.KernelIdeal.Skeleton
public import proofs.«01_k».proof.Proof.Conds

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- At the last point: what the stores leave in the output and in the score buffer. -/
def runC (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32) :
    { L : List (View.Piece (Elt F) S16x16 .i32) × List (View.Piece (Elt F) S16x2048 .f32) //
      ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare xs0 ∗ owns (c : Thread nD τ) arg20 fullShare ys
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L.1) ∗ owns (c : Thread nD τ) arg19 fullShare xs0 ∗ owns (c : Thread nD τ) arg20 fullShare (arg20.view.read (Elt F) (arg20.view.writes (Elt F) (harg20.unread ys) L.2))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, ?_⟩, fun E K => ?run⟩
  case run =>
  simp only [cc0__fused_kernel_eq_skeleton]; unfold cc0__fused_kernel_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hfs0; obtain rfl := harg20.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]; · iexists _; iexact H17
  isplitl [HS0]
  · iexists _; isplitr; · ipureintro; exact harg19.read_unread _
    iexact HS0
  iexists _; isplitr; swap; · iexact HS1
  ipureintro; rfl

end Cert.KernelIdeal.Ours
-- ==== Proof.BodyC.lean ====
/-
  The body at the last grid point, with what it stores named.
-/
module

public import proofs.«01_k».proof.Proof.RunC
public import proofs.«01_k».proof.Proof.BodyKit
public import proofs.«01_k».proof.Proof.Pick
public import Idealize.ShloMosaic.Lib.VecWindow

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The slice stored at this point. -/
theorem sliceC (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32) :
    arg20.view.read (Elt F) (arg20.view.writes (Elt F) (harg20.unread ys) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys).1.2)
      = (VecWindow.put ys (k0_off1 i) S16x256.size (slab x7 x8 x9 x10 x11 x12 x13 x14 x15 x16 xs0)) := by
  refine (View.read_writes_cons_put _ _ _ _ [] rfl).trans ?_
  refine congrArg₂ (fun (y : Vec F S16x2048 .f32) (w : Vec F S16x256 .f32) => VecWindow.put y (k0_off1 i) S16x256.size w) (harg20.read_unread ys) ?_
  exact slab_congr (ld harg8 x7 _) (ld harg9 x8 _) (ld harg10 x9 _) (ld harg11 x10 _) (ld harg12 x11 _) (ld harg13 x12 _) (ld harg14 x13 _) (ld harg15 x14 _) (ld harg16 x15 _) (ld harg17 x16 _) (ld harg19 xs0 _)

set_option maxHeartbeats 1000000 in
/-- The output stored at the last point. -/
theorem outC (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32) (f : arg18.view.ty.Contents (Elt F)) :
    arg18.view.read (Elt F) (arg18.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys).1.1) = lastOut (VecWindow.put ys (k0_off1 i) S16x256.size (slab x7 x8 x9 x10 x11 x12 x13 x14 x15 x16 xs0)) := by
  refine (View.read_writes_full _ _ _ _ []).trans ?_
  rw [← sliceC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys, ← View.readAt_full _ _ inb_S16x2048_S16x2048_0_0]
  rfl

set_option maxHeartbeats 1000000 in
/-- The body at the last point: the last slice and the output. -/
theorem bodyC (c : Dev nD) (i : grid0.Coords) (arg1 : Memref sig .tc .vmem S16x2 .f32) (harg1 : arg1.IsWhole) (arg2 : Memref sig .tc .vmem S2x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S16x256x256 .f32) (harg9 : arg9.IsWhole) (arg10 : Memref sig .tc .vmem S256x256 .f32) (harg10 : arg10.IsWhole) (arg11 : Memref sig .tc .vmem S16x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x1 .f32) (harg17 : arg17.IsWhole) (arg18 : Memref sig .tc .vmem S16x16 .i32) (harg18 : arg18.IsWhole) (arg19 : Memref sig .tc .vmem S16x256 .f32) (harg19 : arg19.IsWhole) (arg20 : Memref sig .tc .vmem S16x2048 .f32) (harg20 : arg20.IsWhole) (hc0 : ¬cond0_0 i) (hc1 : cond0_1 i)
    (x0 : Vec F S16x2 .f32) (x1 : Vec F S2x512 .f32) (x2 : Vec F S1x512 .f32) (x3 : Vec F S512x256 .f32) (x4 : Vec F S1x256 .f32) (x5 : Vec F S256x256 .f32) (x6 : Vec F S1x256 .f32) (x7 : Vec F S1x1 .f32) (x8 : Vec F S16x256x256 .f32) (x9 : Vec F S256x256 .f32) (x10 : Vec F S16x256 .f32) (x11 : Vec F S256x256 .f32) (x12 : Vec F S256x256 .f32) (x13 : Vec F S256x256 .f32) (x14 : Vec F S256x256 .f32) (x15 : Vec F S1x256 .f32) (x16 : Vec F S256x1 .f32) (xs0 : Vec F S16x256 .f32) (ys : Vec F S16x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare xs0 ∗ owns (c : Thread nD τ) arg20 fullShare ys
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (lastOut (VecWindow.put ys (k0_off1 i) S16x256.size (slab x7 x8 x9 x10 x11 x12 x13 x14 x15 x16 xs0))) ∗ owns (c : Thread nD τ) arg19 fullShare xs0 ∗ owns (c : Thread nD τ) arg20 fullShare (VecWindow.put ys (k0_off1 i) S16x256.size (slab x7 x8 x9 x10 x11 x12 x13 x14 x15 x16 xs0))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, H17, HS0, HS1, Hk⟩
  iapply (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys).2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  iintro ⟨H0, H1, H2, H3, H4, H5, H6, H7, H8, H9, H10, H11, H12, H13, H14, H15, H16, H17, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · icases H17 with ⟨%f, H17⟩
    unfold owns; iexists _; isplitr; swap; · iexact H17
    ipureintro; exact outC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys f
  isplitl [HS0]; · iexact HS0
  rw [sliceC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 ys]
  iexact HS1

end Cert.KernelIdeal.Ours
-- ==== Proof.KernelRun.lean ====
/-
  The kernel's launch, followed point by point: after each point the scratch holds the condition and the slices of
  scores stored so far, and the last point leaves the selected output. The launch set-up (the proof data, the body
  obligation, the run) follows the one the kernel's frame uses.
-/
module

public import proofs.«01_k».proof.Proof.BodyA
public import proofs.«01_k».proof.Proof.BodyB
public import proofs.«01_k».proof.Proof.BodyC
public import proofs.«01_k».proof.Proof.Gen.KernelIdeal.Frame
public import Idealize.ShloMosaic.Lib.Claim
public import Idealize.ShloMosaic.Lib.Pipeline.ValueKit
public import Idealize.ShloMosaic.Lib.ValueIdxCore

@[expose] public section

set_option maxRecDepth 16384

noncomputable section

namespace Cert.KernelIdeal.Ours

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition the first point stores. -/
def condAt (c : Dev nD) : Vec F S16x256 .f32 :=
  k0_pay67 (iblk m c 0 t0_0) (iblk m c 1 t0_0) (iblk m c 2 t0_0) (iblk m c 3 t0_0) (iblk m c 4 t0_0) (iblk m c 5 t0_0) (iblk m c 6 t0_0)

/-- The slice of scores point `t` stores. -/
def slabAt (c : Dev nD) (t : Fin cfg0.N) : Vec F S16x256 .f32 :=
  slab (iblk m c 7 t) (iblk m c 8 t) (iblk m c 9 t) (iblk m c 10 t) (iblk m c 11 t) (iblk m c 12 t) (iblk m c 13 t) (iblk m c 14 t)
    (iblk m c 15 t) (iblk m c 16 t) (condAt m c)

/-- The point that stores a column. -/
def pointOf (y : S16x2048.Idx) : Fin cfg0.N :=
  ⟨(y 1).val / 256, lt_of_lt_of_eq (Nat.div_lt_of_lt_mul (show (y 1).val < 256 * 8 from (y 1).isLt)) (show 8 = cfg0.N from N_0.symm)⟩

/-- All the scores. -/
def scores (c : Dev nD) : Vec F S16x2048 .f32 := fun y =>
  slabAt m c (pointOf y) (ix2 (y 0) (⟨(y 1).val % 256, Nat.mod_lt _ (by decide)⟩ : Fin 256))

/-- The offsets of a point's slice. -/
theorem off_eq (t : Fin cfg0.N) : k0_off1 (grid0.coords t) = ![0, 256 * t.val] := by
  have ht : t.val < 8 := Nat.lt_of_lt_of_eq t.isLt N_0
  have e0 : (grid0.coords t 0).val = t.val / 1 % 8 := Pipeline.Grid.coords_val t 0 (by decide) rfl
  have e1 : (grid0.coords t 0).val = t.val := by omega
  have key : ∀ n : ℕ, n < 8 → (Scalar.indexCast (Scalar.muli (BitVec.ofNat 32 n) 256#32) : Index).toNat = 256 * n := by decide
  funext a
  match a with
  | 0 => rfl
  | 1 => exact (congrArg (fun n => (Scalar.indexCast (Scalar.muli (BitVec.ofNat 32 n) 256#32) : Index).toNat) e1).trans (key _ ht)

/-- Storing point `t`'s slice over scratch that holds the earlier slices leaves it holding one more. -/
theorem put_scores (c : Dev nD) (t : Fin cfg0.N) (Y : Vec F S16x2048 .f32)
    (h : ∀ y : S16x2048.Idx, (y 1).val < 256 * t.val → Y y = scores m c y) (y : S16x2048.Idx) (hy : (y 1).val < 256 * (t.val + 1)) :
    VecWindow.put Y (k0_off1 (grid0.coords t)) S16x256.size (slabAt m c t) y = scores m c y := by
  unfold VecWindow.put
  have h0 : (y 0).val < 16 := (y 0).isLt
  split
  · rename_i hin
    have h1 : k0_off1 (grid0.coords t) 1 ≤ (y 1).val ∧ (y 1).val < k0_off1 (grid0.coords t) 1 + 256 := hin 1
    have e1 : k0_off1 (grid0.coords t) 1 = 256 * t.val := congrFun (off_eq t) 1
    have e0 : k0_off1 (grid0.coords t) 0 = 0 := congrFun (off_eq t) 0
    rw [e1] at h1
    have hp : pointOf y = t := Fin.ext (show (y 1).val / 256 = t.val by omega)
    unfold scores
    rw [hp]
    refine congrArg (slabAt m c t) ?_
    funext a
    match a with
    | 0 => exact Fin.ext (show (y 0).val - k0_off1 (grid0.coords t) 0 = (y 0).val by omega)
    | 1 => exact Fin.ext (show (y 1).val - k0_off1 (grid0.coords t) 1 = (y 1).val % 256 by omega)
  · rename_i hout
    refine h y ?_
    by_contra hlt
    refine hout fun a => ?_
    rw [off_eq]
    match a with
    | 0 => exact ⟨Nat.zero_le _, show (y 0).val < 0 + 16 by omega⟩
    | 1 => exact ⟨show 256 * t.val ≤ (y 1).val by omega, show (y 1).val < 256 * t.val + 256 by omega⟩

/-! ## The invariant -/

/-- Before position `n`: the launch's own at first, then the condition and the slices stored so far. -/
def Inv (c : Dev nD) : ℕ → sProp 𝕄
  | 0 => Pipeline.ΦA spec0 c
  | n + 1 => iprop(iprop(owns (c : Thread nD τ) scM0_0 fullShare (condAt m c)
      ∗ (∃ Y, ⌜∀ y : S16x2048.Idx, (y 1).val < 256 * (n + 1) → Y y = scores m c y⌝ ∗ owns (c : Thread nD τ) scM0_1 fullShare Y)) ∗ (∃ r, prngReg c r))

/-- After a point. -/
theorem Inv_succ (c : Dev nD) (n : ℕ) : Inv m c (n + 1) = iprop(iprop(owns (c : Thread nD τ) scM0_0 fullShare (condAt m c)
      ∗ (∃ Y, ⌜∀ y : S16x2048.Idx, (y 1).val < 256 * (n + 1) → Y y = scores m c y⌝ ∗ owns (c : Thread nD τ) scM0_1 fullShare Y)) ∗ (∃ r, prngReg c r)) := rfl

/-- The proof data: each input's buffer at its block, the output at the selection from all the scores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (lastOut (scores m c) : IVec S16x16 32)
    | ⟨_ + 18, h⟩ => absurd h (Nat.not_lt.2 (Nat.le_add_left _ _))
  Φ t := Inv m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = lastOut (scores m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem leaves_8 (c : Dev nD) (t : Fin cfg0.N) : (dats m 0 c).leavesExact 8 t = owns (c : Thread nD τ) (ms0_8 t) fullShare (iblk m c 8 t) := by
  unfold Dat.leavesExact; rw [liveAt0_8 t, after_8]
theorem leaves_9 (c : Dev nD) (t : Fin cfg0.N) : (dats m 0 c).leavesExact 9 t = owns (c : Thread nD τ) (ms0_9 t) fullShare (iblk m c 9 t) := by
  unfold Dat.leavesExact; rw [liveAt0_9 t, after_9]
theorem leaves_10 (c : Dev nD) (t : Fin cfg0.N) : (dats m 0 c).leavesExact 10 t = owns (c : Thread nD τ) (ms0_10 t) fullShare (iblk m c 10 t) := by
  unfold Dat.leavesExact; rw [liveAt0_10 t, after_10]
theorem leaves_11 (c : Dev nD) (t : Fin cfg0.N) : (dats m 0 c).leavesExact 11 t = owns (c : Thread nD τ) (ms0_11 t) fullShare (iblk m c 11 t) := by
  unfold Dat.leavesExact; rw [liveAt0_11 t, after_11]
theorem leaves_12 (c : Dev nD) (t : Fin cfg0.N) : (dats m 0 c).leavesExact 12 t = owns (c : Thread nD τ) (ms0_12 t) fullShare (iblk m c 12 t) := by
  unfold Dat.leavesExact; rw [liveAt0_12 t, after_12]
theorem leaves_13 (c : Dev nD) (t : Fin cfg0.N) : (dats m 0 c).leavesExact 13 t = owns (c : Thread nD τ) (ms0_13 t) fullShare (iblk m c 13 t) := by
  unfold Dat.leavesExact; rw [liveAt0_13 t, after_13]
theorem leaves_14 (c : Dev nD) (t : Fin cfg0.N) : (dats m 0 c).leavesExact 14 t = owns (c : Thread nD τ) (ms0_14 t) fullShare (iblk m c 14 t) := by
  unfold Dat.leavesExact; rw [liveAt0_14 t, after_14]
theorem leaves_15 (c : Dev nD) (t : Fin cfg0.N) : (dats m 0 c).leavesExact 15 t = owns (c : Thread nD τ) (ms0_15 t) fullShare (iblk m c 15 t) := by
  unfold Dat.leavesExact; rw [liveAt0_15 t, after_15]
theorem leaves_16 (c : Dev nD) (t : Fin cfg0.N) : (dats m 0 c).leavesExact 16 t = owns (c : Thread nD τ) (ms0_16 t) fullShare (iblk m c 16 t) := by
  unfold Dat.leavesExact; rw [liveAt0_16 t, after_16]

/-- Before the last point the output's buffer is handed back as it was found. -/
theorem leaves_idle (c : Dev nD) (t : Fin cfg0.N) (h : ¬ t.val % 8 = 7) :
    (dats m 0 c).leavesExact 17 t = iprop(∃ d, owns (c : Thread nD τ) (ms0_17 t) fullShare ((dats m 0 c).before 17 t d)) := by
  refine (dats m 0 c).leavesExact_idle 17 t ?_ ?_
  · have hn : ¬ k0_cond2 (grid0.coords t) = 1#1 := fun e => h ((hcond0_1 t).mp e)
    show (!(k0_cond2 (grid0.coords t) == 1#1)) = true
    simp [hn]
  · exact Bool.eq_false_iff.mpr fun e => h ((flush0_17 t).mp e)

/-- At the last point it holds the output. -/
theorem leaves_last (c : Dev nD) (t : Fin cfg0.N) (h : t.val % 8 = 7) :
    (dats m 0 c).leavesExact 17 t = owns (c : Thread nD τ) (ms0_17 t) fullShare (lastOut (scores m c)) := by
  have hi : cfg0.idle 17 (grid0.coords t) = false := by
    have hn : k0_cond2 (grid0.coords t) = 1#1 := (hcond0_1 t).mpr h
    show (!(k0_cond2 (grid0.coords t) == 1#1)) = false
    simp [hn]
  unfold Dat.leavesExact; rw [hi, after_17]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 24000000 in
/-- The first point. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = Inv m c (t.val + 1) from rfl, show (dats m 0 c).Φ t.castSucc = Inv m c t.val from rfl, Inv_succ]
  have hN : t.val < 8 := lt_of_lt_of_eq t.isLt (show cfg0.N = 8 from N_0)
  have h1 : ¬ t.val % 8 = 7 := by omega
  obtain rfl : t = t0_0 := Fin.ext (show t.val = 0 by omega)
  rw [leaves_idle m c _ h1, show Inv m c ((t0_0 : Fin cfg0.N).val) = Pipeline.ΦA spec0 c from rfl, PhiA0_eq]
  iintro ⟨⟨⟨HS0, ⟨%Y, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply bodyA c (grid0.coords t0_0) _ _ _ _ _ _ _ _ _ _ _ _ _ _ _ _ _ _ _ _ _ _ _ _ _ _ _ _ _ _ _ _ _ _ _ _ _ _ _ _ ((hcond0_0 t0_0).mpr h0) (fun h => h1 ((hcond0_1 t0_0).mp h)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) Y Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · isplitl [HS0]; · iexact HS0
      iexists _; isplitr; swap; · iexact HS1
      ipureintro; exact fun y hy => put_scores m c t0_0 Y (fun y h => absurd h (Nat.not_lt_zero _)) y hy
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

set_option maxHeartbeats 24000000 in
/-- A point between. -/
theorem sound_middle (c : Dev nD) (t : Fin cfg0.N) (h0 : ¬ t.val % 8 = 0) (h1 : ¬ t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = Inv m c (t.val + 1) from rfl, show (dats m 0 c).Φ t.castSucc = Inv m c t.val from rfl, Inv_succ]
  obtain ⟨n, hn⟩ : ∃ n, t.val = n + 1 := Nat.exists_eq_succ_of_ne_zero (by omega)
  rw [leaves_idle m c _ h1, show Inv m c t.val = Inv m c (n + 1) from by rw [hn], Inv_succ]
  iintro ⟨⟨⟨HS0, ⟨%Y, %hY, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply bodyB c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (condAt m c) Y Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · isplitl [HS0]; · iexact HS0
      iexists _; isplitr; swap; · iexact HS1
      ipureintro; exact fun y hy => put_scores m c t Y (fun y h => hY y (by omega)) y hy
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

set_option maxHeartbeats 24000000 in
/-- The last point. -/
theorem sound_last (c : Dev nD) (t : Fin cfg0.N) (h1 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = Inv m c (t.val + 1) from rfl, show (dats m 0 c).Φ t.castSucc = Inv m c t.val from rfl, Inv_succ]
  have hN : t.val < 8 := lt_of_lt_of_eq t.isLt (show cfg0.N = 8 from N_0)
  have h0 : ¬ t.val % 8 = 0 := by omega
  obtain ⟨n, hn⟩ : ∃ n, t.val = n + 1 := Nat.exists_eq_succ_of_ne_zero (by omega)
  rw [leaves_last m c _ h1, show Inv m c t.val = Inv m c (n + 1) from by rw [hn], Inv_succ]
  iintro ⟨⟨⟨HS0, ⟨%Y, %hY, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply bodyC c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (condAt m c) Y Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  iintro ⟨H0, H1, H2, H3, H4, H5, H6, H7, H8, H9, H10, H11, H12, H13, H14, H15, H16, H17, HS0, HS1⟩
  isplitl [HS0 HS1 Hg]
  · isplitl [HS0 HS1]
    · isplitl [HS0]; · iexact HS0
      iexists _; isplitr; swap; · iexact HS1
      ipureintro; exact fun y hy => put_scores m c t Y (fun y h => hY y (by omega)) y hy
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  rw [show lastOut (scores m c) = lastOut (VecWindow.put Y (k0_off1 (grid0.coords t)) S16x256.size (slabAt m c t)) from
    congrArg lastOut (funext fun y => (put_scores m c t Y (fun y h => hY y (by omega)) y (by
      have : (y 1).val < 2048 := (y 1).isLt
      omega)).symm)]
  iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h1 : t.val % 8 = 7
    · exact sound_last m c t h1
    · exact sound_middle m c t h0 h1

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := Idealize.SL.BI.Entails.refl _

/-- After the last point the invariant gives it back. -/
theorem hout (c : Dev nD) : (dats m 0 c).Φ (Fin.last cfg0.N) ⊢ Pipeline.ΦA spec0 c := by
  have e : (Fin.last cfg0.N).val = 7 + 1 := N_0
  rw [show (dats m 0 c).Φ (Fin.last cfg0.N) = Inv m c (7 + 1) from congrArg (Inv m c) e, Inv_succ, PhiA0_eq]
  iintro ⟨⟨HS0, ⟨%Y, %hY, HS1⟩⟩, Hg⟩
  isplitl [HS0 HS1]
  · isplitl [HS0]
    · iexists _; iexact HS0
    iexists _; iexact HS1
  iexact Hg

set_option backward.isDefEq.respectTransparency.types false in
/-- The run: every array of the pipeline at its contents after the last point, every counter at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the result holds after the last point: the selection from all the scores. -/
theorem result_eq (c : Dev nD) : (dats m 0 c).arrAt 17 cfg0.N = lastOut (scores m c) := by
  refine (dats m 0 c).arrAt_eq_of_after_last 17 t0_7 (by decide +kernel) _ fun j => ?_
  rw [after_17]
  rfl

/-- The arguments end unchanged and every counter at zero. -/
theorem frame_zero : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) ∧ r.2.sem = fun _ => 0) :=
  θ_run_and (frame_of m ρ (dats m) (A_eq m) ((θ_run defs _ _).mono (fun _ h => h.1) (run m ρ)))
    ((θ_run defs _ _).mono (fun _ h => h.2) (run m ρ))

/-- The result ends at the selection from all the scores. -/
theorem run_result : θ_run defs (onTc (τ := τ) (main (F := F))) ⟨m, fun _ => 0, ρ⟩ (fun r => ∀ c : Dev nD,
      r.2.mem ((c.tc : Thread nD τ).loc main_v31) = lastOut (scores m c)) :=
  (θ_run defs _ _).mono (fun _ h c => ((h.1 c).1 17).trans (result_eq m c)) (run m ρ)

/-- The same, with the arguments unchanged. -/
theorem run_value : θ_run defs (onTc (τ := τ) (main (F := F))) ⟨m, fun _ => 0, ρ⟩ (fun r => ∀ c : Dev nD,
      r.2.mem ((c.tc : Thread nD τ).loc main_v31) = lastOut (scores m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨h.1 c, h.2.1 c⟩) (θ_run_and (run_result m ρ) (frame_zero m ρ))

end Cert.KernelIdeal.Ours
-- ==== Proof.RefOps.lean ====
/-
  The reference's host operations, as lists read off its printed functions.
-/
module

public import proofs.«01_k».proof.ReferenceIdeal
public import Idealize.ShloMosaic.Lib.StableHlo.RunHlo

@[expose] public section

noncomputable section

namespace Cert.ReferenceIdeal.Ours

open Idealize.ShloMosaic Idealize.SL.Sem Idealize.ShloMosaic.StableHlo
open Cert.ReferenceIdeal

variable {F : FTy → Type} [FloatOps F] [Facts]

/-- The programs of this module's host operations. -/
abbrev HostProg (F : FTy → Type) [FloatOps F] [Facts] : Type 1 :=
  Prog (TpuEff nD τ sig (Elt F) (Pipeline.Sig Λ₀ (Fin 0) fun p => (pcfgs (F := F) p).Adm) .tc) PUnit

/-- A straight line followed by a straight line is one. -/
theorem isSeq_append {p k : HostProg F} {xs ys : List (HloOp τ sig (Elt F))}
    (h : IsSeq p xs) (h' : IsSeq k ys) : IsSeq (p >>= fun _ => k) (xs ++ ys) := by
  unfold IsSeq at h h' ⊢
  rw [h, h', seq_append]

/-- One operation alone is a straight line. -/
theorem isSeq_single {op : HloOp τ sig (Elt F)} :
    IsSeq (hlo rfl op fun _ => .ret (⟨⟩ : PUnit) : HostProg F) [op] := rfl

set_option maxHeartbeats 40000000 in
set_option maxRecDepth 100000 in
/-- The operations of the call of the Gumbel noise, the threefry rounds among them. -/
def gumbelOps : { l : List (HloOp τ sig (Elt F)) // IsSeq (fn_gumbel.body (.of main_v43) main_call0 : HostProg F) l } := by
  apply Subtype.mk
  case property =>
    unfold fn_gumbel.body fn_uniform.body fn_threefry2x32.body fn_threefry2x32.body_part0 fn_threefry2x32.body_part1
      fn_threefry2x32.body_part2 fn_threefry2x32.body_part3
    repeat (first | exact IsSeq.nil | apply IsSeq.cons | exact isSeq_single | apply isSeq_append)

set_option maxHeartbeats 40000000 in
set_option maxRecDepth 100000 in
/-- The operations of `main` after the noise: the scores and the noise added, the greatest taken, the columns sorted. -/
def postOps : { l : List (HloOp τ sig (Elt F)) // IsSeq (main_part1 (F := F) 0) l } := by
  apply Subtype.mk
  case property =>
    unfold main_part1 fn_sort.body
    repeat (first | exact IsSeq.nil | apply IsSeq.cons | exact isSeq_single | apply isSeq_append)

set_option maxHeartbeats 40000000 in
set_option maxRecDepth 100000 in
/-- All the operations of `main`, in order. -/
def mainOps : { l : List (HloOp τ sig (Elt F)) // IsSeq (main (F := F) 0) l } := by
  apply Subtype.mk
  case property =>
    unfold main
    apply isSeq_append (h' := postOps.2)
    unfold main_part0
    repeat (first | exact gumbelOps.2 | exact isSeq_single | apply IsSeq.cons | apply isSeq_append)

/-- What is asked of each operation: it touches TensorCore buffers only and determines what it writes. -/
def Tame (op : HloOp τ sig (Elt F)) : Prop := op.bufs ⊆ tcRefs τ sig ∧ op.fresh = ∅

set_option maxHeartbeats 40000000 in
set_option maxRecDepth 100000 in
theorem gumbelOps_tame : (gumbelOps (F := F)).1.Forall Tame := by
  unfold gumbelOps
  dsimp only
  simp only [List.cons_append, List.nil_append, List.forall_cons, List.Forall, Tame]
  repeat' apply And.intro
  all_goals first | rfl | simp

set_option maxHeartbeats 40000000 in
set_option maxRecDepth 100000 in
theorem postOps_tame : (postOps (F := F)).1.Forall Tame := by
  unfold postOps
  dsimp only
  simp only [List.cons_append, List.nil_append, List.forall_cons, List.Forall, Tame]
  repeat' apply And.intro
  all_goals first | rfl | simp

set_option maxHeartbeats 40000000 in
set_option maxRecDepth 100000 in
theorem mainOps_tame : (mainOps (F := F)).1.Forall Tame := by
  unfold mainOps
  dsimp only
  simp only [List.cons_append, List.nil_append, List.append_assoc, List.forall_append, List.forall_cons, gumbelOps_tame, postOps_tame, true_and, and_true]
  simp only [List.Forall, Tame]
  repeat' apply And.intro
  all_goals first | rfl | simp

/-- The reference's run: every buffer ends with what the operations leave there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after mainOps.1 (launchContents m d) (Proc.devRef .tc b) :=
  run_hlo _ _ (fun d => by rw [Subsingleton.elim d 0]; exact mainOps.2) (by decide) (by decide)
    (mainOps_tame.imp fun _ h => h.1) (fun _ h => (List.forall_iff_forall_mem.mp mainOps_tame _ h).2) _ _

end Cert.ReferenceIdeal.Ours

end
-- ==== Proof.Lists.lean ====
/-
  Running host operations one list after another.
-/
module

public import Idealize.ShloMosaic.Lib.StableHlo.RunHlo

@[expose] public section

namespace Cert.Ours

open Idealize.ShloMosaic Idealize.ShloMosaic.StableHlo

variable {τ : Topo} {sig : RefSig} {F : FTy → Type} [FloatOps F]

/-- Running two lists one after the other. -/
theorem after_append (xs ys : List (HloOp τ sig (Elt F))) (V : Valuation τ sig (Elt F)) :
    after (xs ++ ys) V = after ys (after xs V) := by
  induction xs generalizing V with
  | nil => rfl
  | cons x xs ih => simp only [List.cons_append, after_cons, ih]

end Cert.Ours
-- ==== Proof.RefPieces.lean ====
/-
  The reference's value: what its operations leave in its result, as a term of the arguments and of the Gumbel noise.
  The operations are listed in pieces, cut where a concatenation reads several buffers and around the noise's call.
-/
module

public import proofs.«01_k».proof.Proof.RefOps
public import proofs.«01_k».proof.Proof.Lists

@[expose] public section

noncomputable section

namespace Cert.ReferenceIdeal.Ours

open Idealize.ShloMosaic Idealize.SL.Sem Idealize.ShloMosaic.StableHlo
open Cert.ReferenceIdeal Facts₀ Facts
open Cert.Ours (after_append)

variable {F : FTy → Type} [FloatOps F] [Facts]

/-- A float array of shape `S`. -/
abbrev V (F : FTy → Type) (S : Shape) : Type := (⟨S, .f32⟩ : BufTy).Contents (Elt F)
/-- A 32-bit integer array of shape `S`. -/
abbrev I (F : FTy → Type) (S : Shape) : Type := (⟨S, .i32⟩ : BufTy).Contents (Elt F)

set_option maxHeartbeats 4000000 in
/-- The operations up to the interaction features. -/
def opsA : List (HloOp τ sig (Elt F)) := [
    binary main_arg1 main_arg2 main_v0 ((fun l r => Host.dotGeneral dot_S16x2_S2x512_S16x512_1_0_0_1_n_n none l r) : V F S16x2 → V F S2x512 → V F S16x512),
    unary main_arg3 main_v1 (broadcastInDim S1x512 ![1] bcast_S512_S1x512_1 : V F S512 → V F S1x512),
    unary main_v1 main_v2 (broadcastInDim S16x512 ![0, 1] bcast_S1x512_S16x512_0_1 : V F S1x512 → V F S16x512),
    binary main_v0 main_v2 main_v3 (addf : V F S16x512 → V F S16x512 → V F S16x512),
    nullary main_cst (constant S_ .f32 0x00000000#32),
    unary main_cst main_v4 (broadcastInDim S16x512 ![] bcast_S_S16x512 : V F S_ → V F S16x512),
    binary main_v3 main_v4 main_v5 (maximumf : V F S16x512 → V F S16x512 → V F S16x512),
    binary main_v5 main_arg4 main_v6 ((fun l r => Host.dotGeneral dot_S16x512_S512x256_S16x256_1_0_0_1_n_n none l r) : V F S16x512 → V F S512x256 → V F S16x256),
    unary main_arg5 main_v7 (broadcastInDim S1x256 ![1] bcast_S256_S1x256_1 : V F S256 → V F S1x256),
    unary main_v7 main_v8 (broadcastInDim S16x256 ![0, 1] bcast_S1x256_S16x256_0_1 : V F S1x256 → V F S16x256),
    binary main_v6 main_v8 main_v9 (addf : V F S16x256 → V F S16x256 → V F S16x256),
    unary main_v9 main_v10 (broadcastInDim S16x1x256 ![0, 2] bcast_S16x256_S16x1x256_0_2 : V F S16x256 → V F S16x1x256),
    unary main_v10 main_v11 (broadcastInDim S16x2048x256 ![0, 1, 2] bcast_S16x1x256_S16x2048x256_0_1_2 : V F S16x1x256 → V F S16x2048x256),
    binary main_arg0 main_v11 main_v12 ((fun a b => concatenate S16x2048x512 2 [⟨S16x2048x256, a⟩, ⟨S16x2048x256, b⟩] concatenates_S16x2048x256_S16x2048x256_S16x2048x512_d2) : V F S16x2048x256 → V F S16x2048x256 → V F S16x2048x512),
    binary main_v12 main_arg6 main_v13 ((fun l r => Host.dotGeneral dot_S16x2048x512_S512x256_S16x2048x256_2_0_01_1_n_n none l r) : V F S16x2048x512 → V F S512x256 → V F S16x2048x256),
    unary main_arg7 main_v14 (broadcastInDim S1x1x256 ![2] bcast_S256_S1x1x256_2 : V F S256 → V F S1x1x256),
    unary main_v14 main_v15 (broadcastInDim S16x2048x256 ![0, 1, 2] bcast_S1x1x256_S16x2048x256_0_1_2 : V F S1x1x256 → V F S16x2048x256),
    binary main_v13 main_v15 main_v16 (addf : V F S16x2048x256 → V F S16x2048x256 → V F S16x2048x256),
    unary main_v16 main_v17 ((extractStridedSlice S16x2046x256 ![0, 1, 0] · slices_S16x2048x256_S16x2046x256_0_1_0) : V F S16x2048x256 → V F S16x2046x256),
    unary main_arg8 main_v18 (broadcastInDim S1x2046x256 ![1, 2] bcast_S2046x256_S1x2046x256_1_2 : V F S2046x256 → V F S1x2046x256),
    unary main_v18 main_v19 (broadcastInDim S16x2046x256 ![0, 1, 2] bcast_S1x2046x256_S16x2046x256_0_1_2 : V F S1x2046x256 → V F S16x2046x256),
    binary main_v17 main_v19 main_v20 (mulf : V F S16x2046x256 → V F S16x2046x256 → V F S16x2046x256),
    nullary main_cst_0 (constant S_ .f32 0x00000000#32),
    binary main_v20 main_cst_0 main_v21 ((fun x v => Host.reduceAdd x v reducesTo_S16x2046x256_S16x2046_d2 h_S_) : V F S16x2046x256 → V F S_ → V F S16x2046),
    unary main_v21 main_v22 (broadcastInDim S16x2046x1 ![0, 1] bcast_S16x2046_S16x2046x1_0_1 : V F S16x2046 → V F S16x2046x1),
    binary main_v17 main_v19 main_v23 (subf : V F S16x2046x256 → V F S16x2046x256 → V F S16x2046x256),
    binary main_v17 main_v19 main_v24 (mulf : V F S16x2046x256 → V F S16x2046x256 → V F S16x2046x256)]

/-- The concatenation of the interaction features. -/
def opFeat : HloOp τ sig (Elt F) :=
    nary ![main_v17, main_v19, main_v23, main_v24, main_v22] main_v25 (fun u => (concatenate S16x2046x1025 2 [⟨S16x2046x256, (u 0 : V F S16x2046x256)⟩, ⟨S16x2046x256, (u 1 : V F S16x2046x256)⟩, ⟨S16x2046x256, (u 2 : V F S16x2046x256)⟩, ⟨S16x2046x256, (u 3 : V F S16x2046x256)⟩, ⟨S16x2046x1, (u 4 : V F S16x2046x1)⟩] concatenates_S16x2046x256_S16x2046x256_S16x2046x256_S16x2046x256_S16x2046x1_S16x2046x1025_d2 : V F S16x2046x1025))

set_option maxHeartbeats 4000000 in
/-- The operations from the features to the scores, and the noise's key. -/
def opsB : List (HloOp τ sig (Elt F)) := [
    binary main_v25 main_arg9 main_v26 ((fun l r => Host.dotGeneral dot_S16x2046x1025_S1025x256_S16x2046x256_2_0_01_1_n_n none l r) : V F S16x2046x1025 → V F S1025x256 → V F S16x2046x256),
    unary main_arg10 main_v27 (broadcastInDim S1x1x256 ![2] bcast_S256_S1x1x256_2 : V F S256 → V F S1x1x256),
    unary main_v27 main_v28 (broadcastInDim S16x2046x256 ![0, 1, 2] bcast_S1x1x256_S16x2046x256_0_1_2 : V F S1x1x256 → V F S16x2046x256),
    binary main_v26 main_v28 main_v29 (addf : V F S16x2046x256 → V F S16x2046x256 → V F S16x2046x256),
    nullary main_cst_1 (constant S_ .f32 0x00000000#32),
    unary main_cst_1 main_v30 (broadcastInDim S16x2046x256 ![] bcast_S_S16x2046x256 : V F S_ → V F S16x2046x256),
    binary main_v29 main_v30 main_v31 (maximumf : V F S16x2046x256 → V F S16x2046x256 → V F S16x2046x256),
    binary main_v31 main_arg11 main_v32 ((fun l r => Host.dotGeneral dot_S16x2046x256_S256x1_S16x2046x1_2_0_01_1_n_n none l r) : V F S16x2046x256 → V F S256x1 → V F S16x2046x1),
    unary main_arg12 main_v33 (broadcastInDim S1x1x1 ![2] bcast_S1_S1x1x1_2 : V F S1 → V F S1x1x1),
    unary main_v33 main_v34 (broadcastInDim S16x2046x1 ![0, 1, 2] bcast_S1x1x1_S16x2046x1_0_1_2 : V F S1x1x1 → V F S16x2046x1),
    binary main_v32 main_v34 main_v35 (addf : V F S16x2046x1 → V F S16x2046x1 → V F S16x2046x1),
    reshape main_v35 main_v36 (rfl : (.f32 : EltTy) = .f32) shapeCasts_S16x2046x1_S16x2046,
    nullary main_c (constantI S_ 32 42#32),
    nullary main_c_2 (constantI S_ 32 32#32),
    binary main_c main_c_2 main_v37 (Host.shrui : I F S_ → I F S_ → I F S_),
    unary main_v37 main_v38 (id : I F S_ → I F S_),
    unary main_v38 main_v39 (broadcastInDim S1 ![] bcast_S_S1 : I F S_ → I F S1),
    nullary main_c_3 (constantI S_ 32 4294967295#32),
    binary main_c main_c_3 main_v40 (andi : I F S_ → I F S_ → I F S_),
    unary main_v40 main_v41 (id : I F S_ → I F S_),
    unary main_v41 main_v42 (broadcastInDim S1 ![] bcast_S_S1 : I F S_ → I F S1),
    binary main_v39 main_v42 main_v43 ((fun a b => concatenate S2 0 [⟨S1, a⟩, ⟨S1, b⟩] concatenates_S1_S1_S2_d0) : I F S1 → I F S1 → I F S2)]

set_option maxHeartbeats 4000000 in
/-- The operations from the scores and the noise to the chosen indices. -/
def opsC : List (HloOp τ sig (Elt F)) := [
    binary main_v36 main_v44 main_v45 (addf : V F S16x2046 → V F S16x2046 → V F S16x2046),
    nullary main_cst_4 (constant S_ .f32 0x3F800000#32),
    unary main_cst_4 main_v46 (broadcastInDim S16x2046 ![] bcast_S_S16x2046 : V F S_ → V F S16x2046),
    binary main_v45 main_v46 main_v47 (Host.divf : V F S16x2046 → V F S16x2046 → V F S16x2046),
    unary main_v47 main_values ((fun x => (Host.topK S16x14 1 (FloatOps.cmpfTotal .gt) x sliceFits_S16x2046_S16x14).1) : V F S16x2046 → V F S16x14),
    unary main_v47 main_indices ((fun x => (Host.topK S16x14 1 (FloatOps.cmpfTotal .gt) x sliceFits_S16x2046_S16x14).2) : V F S16x2046 → I F S16x14),
    nullary main_c_5 (constantI S_ 32 0#32),
    unary main_c_5 main_v48 (broadcastInDim S16x1 ![] bcast_S_S16x1 : I F S_ → I F S16x1),
    nullary main_c_6 (constantI S_ 32 1#32)]

/-- The operations up to the three columns of the result. -/
def opsD : List (HloOp τ sig (Elt F)) := [
    unary main_c_6 main_v49 (broadcastInDim S16x14 ![] bcast_S_S16x14 : I F S_ → I F S16x14),
    binary main_indices main_v49 main_v50 (addi : I F S16x14 → I F S16x14 → I F S16x14),
    nullary main_c_7 (constantI S_ 32 2047#32),
    unary main_c_7 main_v51 (broadcastInDim S16x1 ![] bcast_S_S16x1 : I F S_ → I F S16x1)]

/-- The three columns put side by side. -/
def opRow : HloOp τ sig (Elt F) :=
    nary ![main_v48, main_v50, main_v51] main_v52 (fun u => (concatenate S16x16 1 [⟨S16x1, (u 0 : I F S16x1)⟩, ⟨S16x14, (u 1 : I F S16x14)⟩, ⟨S16x1, (u 2 : I F S16x1)⟩] concatenates_S16x1_S16x14_S16x1_S16x16_d1 : I F S16x16))

/-- The sort of the rows. -/
def opSort : HloOp τ sig (Elt F) :=
    unary main_v52 main_v53 (fun x : I F S16x16 => (Host.sort S16x16 1 comparator_i32_d1 x : I F S16x16))

/-- The end of the reference is these. -/
theorem postOps_eq : (postOps (F := F)).1 = opsD ++ [opRow, opSort] := rfl

set_option maxHeartbeats 4000000 in
set_option maxRecDepth 100000 in
/-- The reference is these pieces in turn. -/
theorem mainOps_eq : (mainOps (F := F)).1 = (opsA ++ opFeat :: (opsB ++ (gumbelOps.1 ++ opsC))) ++ postOps.1 := rfl

/-- The condition vectors of the batch: the two-layer network on the parameters. -/
def condR (a1 : V F S16x2) (a2 : V F S2x512) (a3 : V F S512) (a4 : V F S512x256) (a5 : V F S256) : V F S16x256 :=
  addf (Host.dotGeneral dot_S16x512_S512x256_S16x256_1_0_0_1_n_n none
      (maximumf (addf (Host.dotGeneral dot_S16x2_S2x512_S16x512_1_0_0_1_n_n none a1 a2)
          (broadcastInDim S16x512 ![0, 1] bcast_S1x512_S16x512_0_1 (broadcastInDim S1x512 ![1] bcast_S512_S1x512_1 a3)))
        (broadcastInDim S16x512 ![] bcast_S_S16x512 (constant S_ .f32 0x00000000#32))) a4)
    (broadcastInDim S16x256 ![0, 1] bcast_S1x256_S16x256_0_1 (broadcastInDim S1x256 ![1] bcast_S256_S1x256_1 a5))

/-- The fused features of the inner frames, from the condition vectors. -/
def midR (a0 : V F S16x2048x256) (cond : V F S16x256) (a6 : V F S512x256) (a7 : V F S256) : V F S16x2046x256 :=
  extractStridedSlice S16x2046x256 ![0, 1, 0]
    (addf (Host.dotGeneral dot_S16x2048x512_S512x256_S16x2048x256_2_0_01_1_n_n none
        (concatenate S16x2048x512 2 [⟨S16x2048x256, a0⟩, ⟨S16x2048x256, broadcastInDim S16x2048x256 ![0, 1, 2] bcast_S16x1x256_S16x2048x256_0_1_2
            (broadcastInDim S16x1x256 ![0, 2] bcast_S16x256_S16x1x256_0_2 cond)⟩] concatenates_S16x2048x256_S16x2048x256_S16x2048x512_d2) a6)
      (broadcastInDim S16x2048x256 ![0, 1, 2] bcast_S1x1x256_S16x2048x256_0_1_2 (broadcastInDim S1x1x256 ![2] bcast_S256_S1x1x256_2 a7)))
    slices_S16x2048x256_S16x2046x256_0_1_0

/-- The embedding table, the same for every batch element. -/
def embR (a8 : V F S2046x256) : V F S16x2046x256 :=
  broadcastInDim S16x2046x256 ![0, 1, 2] bcast_S1x2046x256_S16x2046x256_0_1_2
    (broadcastInDim S1x2046x256 ![1, 2] bcast_S2046x256_S1x2046x256_1_2 a8)

/-- The interaction features: both, their difference, their product and their inner product. -/
def featR (x e : V F S16x2046x256) : V F S16x2046x1025 :=
  concatenate S16x2046x1025 2 [⟨S16x2046x256, x⟩, ⟨S16x2046x256, e⟩, ⟨S16x2046x256, subf x e⟩, ⟨S16x2046x256, mulf x e⟩,
      ⟨S16x2046x1, broadcastInDim S16x2046x1 ![0, 1] bcast_S16x2046_S16x2046x1_0_1
        (Host.reduceAdd (mulf x e) (constant S_ .f32 0x00000000#32) reducesTo_S16x2046x256_S16x2046_d2 h_S_)⟩]
    concatenates_S16x2046x256_S16x2046x256_S16x2046x256_S16x2046x256_S16x2046x1_S16x2046x1025_d2

/-- The scores of the inner frames, from their fused features. -/
def scoreR (x e : V F S16x2046x256) (a9 : V F S1025x256) (a10 : V F S256) (a11 : V F S256x1) (a12 : V F S1) : V F S16x2046 :=
  shapeCast S16x2046
    (addf (Host.dotGeneral dot_S16x2046x256_S256x1_S16x2046x1_2_0_01_1_n_n none
        (maximumf (addf (Host.dotGeneral dot_S16x2046x1025_S1025x256_S16x2046x256_2_0_01_1_n_n none
              (featR x e) a9)
            (broadcastInDim S16x2046x256 ![0, 1, 2] bcast_S1x1x256_S16x2046x256_0_1_2 (broadcastInDim S1x1x256 ![2] bcast_S256_S1x1x256_2 a10)))
          (broadcastInDim S16x2046x256 ![] bcast_S_S16x2046x256 (constant S_ .f32 0x00000000#32))) a11)
      (broadcastInDim S16x2046x1 ![0, 1, 2] bcast_S1x1x1_S16x2046x1_0_1_2 (broadcastInDim S1x1x1 ![2] bcast_S1_S1x1x1_2 a12)))
    shapeCasts_S16x2046x1_S16x2046

/-- The top fourteen of perturbed scores, by their places among the inner frames. -/
def topR (y : V F S16x2046) : I F S16x14 :=
  (Host.topK S16x14 1 (FloatOps.cmpfTotal .gt) (Host.divf y (broadcastInDim S16x2046 ![] bcast_S_S16x2046 (constant S_ .f32 0x3F800000#32)))
    sliceFits_S16x2046_S16x14).2

/-- Three columns put side by side. -/
def rowR (z : I F S16x1) (k : I F S16x14) (l : I F S16x1) : I F S16x16 :=
  concatenate S16x16 1 [⟨S16x1, z⟩, ⟨S16x14, k⟩, ⟨S16x1, l⟩] concatenates_S16x1_S16x14_S16x1_S16x16_d1

/-- The sorted rows of a first border, inner frames moved on by a constant, and the last border. -/
def sortR (z : I F S16x1) (k : I F S16x14) (one : I F S_) : I F S16x16 :=
  Host.sort S16x16 1 comparator_i32_d1
    (rowR z (addi k (broadcastInDim S16x14 ![] bcast_S_S16x14 one)) (broadcastInDim S16x1 ![] bcast_S_S16x1 (constantI S_ 32 2047#32)))

/-- The chosen frames of perturbed scores: the top fourteen inner frames and the two borders, sorted. -/
def pickR (y : V F S16x2046) : I F S16x16 :=
  sortR (broadcastInDim S16x1 ![] bcast_S_S16x1 (constantI S_ 32 0#32)) (topR y) (constantI S_ 32 1#32)

/-- The noise's key. -/
def keyR : I F S2 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

end Cert.ReferenceIdeal.Ours

end
-- ==== Proof.RefValue.lean ====
/-
  The reference's value: its pieces read one after the other.
-/
module

public import proofs.«01_k».proof.Proof.RefPieces

@[expose] public section

noncomputable section

namespace Cert.ReferenceIdeal.Ours

open Idealize.ShloMosaic Idealize.SL.Sem Idealize.ShloMosaic.StableHlo
open Cert.ReferenceIdeal Facts₀ Facts
open Cert.Ours (after_append)

variable {F : FTy → Type} [FloatOps F] [Facts]

set_option maxHeartbeats 2000000 in
set_option maxRecDepth 100000 in
/-- The fused features. -/
theorem opsA_v17 (W : Valuation τ sig (Elt F)) :
    after opsA W (Proc.devRef .tc main_v17) = midR (W (Proc.devRef .tc main_arg0)) (condR (W (Proc.devRef .tc main_arg1)) (W (Proc.devRef .tc main_arg2)) (W (Proc.devRef .tc main_arg3)) (W (Proc.devRef .tc main_arg4)) (W (Proc.devRef .tc main_arg5))) (W (Proc.devRef .tc main_arg6)) (W (Proc.devRef .tc main_arg7)) := by
  unfold opsA
  after_results_simp
  rfl

set_option maxHeartbeats 2000000 in
set_option maxRecDepth 100000 in
/-- The embeddings. -/
theorem opsA_v19 (W : Valuation τ sig (Elt F)) :
    after opsA W (Proc.devRef .tc main_v19) = embR (W (Proc.devRef .tc main_arg8)) := by
  unfold opsA
  after_results_simp
  rfl

set_option maxHeartbeats 2000000 in
set_option maxRecDepth 100000 in
/-- Their difference. -/
theorem opsA_v23 (W : Valuation τ sig (Elt F)) :
    after opsA W (Proc.devRef .tc main_v23) = subf (midR (W (Proc.devRef .tc main_arg0)) (condR (W (Proc.devRef .tc main_arg1)) (W (Proc.devRef .tc main_arg2)) (W (Proc.devRef .tc main_arg3)) (W (Proc.devRef .tc main_arg4)) (W (Proc.devRef .tc main_arg5))) (W (Proc.devRef .tc main_arg6)) (W (Proc.devRef .tc main_arg7))) (embR (W (Proc.devRef .tc main_arg8))) := by
  unfold opsA
  after_results_simp
  rfl

set_option maxHeartbeats 2000000 in
set_option maxRecDepth 100000 in
/-- Their product. -/
theorem opsA_v24 (W : Valuation τ sig (Elt F)) :
    after opsA W (Proc.devRef .tc main_v24) = mulf (midR (W (Proc.devRef .tc main_arg0)) (condR (W (Proc.devRef .tc main_arg1)) (W (Proc.devRef .tc main_arg2)) (W (Proc.devRef .tc main_arg3)) (W (Proc.devRef .tc main_arg4)) (W (Proc.devRef .tc main_arg5))) (W (Proc.devRef .tc main_arg6)) (W (Proc.devRef .tc main_arg7))) (embR (W (Proc.devRef .tc main_arg8))) := by
  unfold opsA
  after_results_simp
  rfl

set_option maxHeartbeats 2000000 in
set_option maxRecDepth 100000 in
/-- Their inner product. -/
theorem opsA_v22 (W : Valuation τ sig (Elt F)) :
    after opsA W (Proc.devRef .tc main_v22) = broadcastInDim S16x2046x1 ![0, 1] bcast_S16x2046_S16x2046x1_0_1 (Host.reduceAdd (mulf (midR (W (Proc.devRef .tc main_arg0)) (condR (W (Proc.devRef .tc main_arg1)) (W (Proc.devRef .tc main_arg2)) (W (Proc.devRef .tc main_arg3)) (W (Proc.devRef .tc main_arg4)) (W (Proc.devRef .tc main_arg5))) (W (Proc.devRef .tc main_arg6)) (W (Proc.devRef .tc main_arg7))) (embR (W (Proc.devRef .tc main_arg8)))) (constant S_ .f32 0x00000000#32) reducesTo_S16x2046x256_S16x2046_d2 h_S_) := by
  unfold opsA
  after_results_simp
  rfl

set_option maxHeartbeats 2000000 in
set_option maxRecDepth 100000 in
/-- The scores, from the concatenated features. -/
theorem opsB_v36 (W : Valuation τ sig (Elt F)) (x e : V F S16x2046x256)
    (h : W (Proc.devRef .tc main_v25) = featR x e) :
    after opsB W (Proc.devRef .tc main_v36) = scoreR x e (W (Proc.devRef .tc main_arg9)) (W (Proc.devRef .tc main_arg10)) (W (Proc.devRef .tc main_arg11)) (W (Proc.devRef .tc main_arg12)) := by
  unfold opsB
  after_results_simp
  rw [h]
  rfl

set_option maxHeartbeats 2000000 in
set_option maxRecDepth 100000 in
/-- The key. -/
theorem opsB_v43 (W : Valuation τ sig (Elt F)) :
    after opsB W (Proc.devRef .tc main_v43) = keyR := by
  unfold opsB
  after_results_simp
  rfl

set_option maxHeartbeats 2000000 in
set_option maxRecDepth 100000 in
/-- The noise's operations leave the scores as they are. -/
theorem gumbelOps_v36 (W : Valuation τ sig (Elt F)) :
    after gumbelOps.1 W (Proc.devRef .tc main_v36) = W (Proc.devRef .tc main_v36) := by
  change after (_ :: _) W _ = _
  after_results_simp

end Cert.ReferenceIdeal.Ours

end
-- ==== Proof.RefRun.lean ====
/-
  The reference's run: its arguments end as they began, its result is the sorted choice of the perturbed scores.
-/
module

public import proofs.«01_k».proof.Proof.RefValue
public import Idealize.ShloMosaic.Lib.StableHlo.RunRead

@[expose] public section

noncomputable section

namespace Cert.ReferenceIdeal.Ours

open Idealize.ShloMosaic Idealize.SL.Sem Idealize.ShloMosaic.StableHlo
open Cert.ReferenceIdeal Facts₀ Facts
open Cert.Ours (after_append)

variable {F : FTy → Type} [FloatOps F] [Facts]

/-- The buffers of the arguments. -/
def argRefs : List (Ref sig .tc) := [main_arg0, main_arg1, main_arg2, main_arg3, main_arg4, main_arg5, main_arg6, main_arg7, main_arg8, main_arg9, main_arg10, main_arg11, main_arg12]

/-- An operation that writes no argument. -/
def Keeps (op : HloOp τ sig (Elt F)) : Prop := ∀ r ∈ argRefs, (Proc.devRef (τ := τ) .tc r) ∉ op.writes

/-- Each argument's place in its space is below 13. -/
theorem argRefs_idx : ∀ r ∈ argRefs, r.idx.val < 13 := by decide

/-- An operation writing one buffer placed behind the arguments keeps the arguments. -/
theorem keeps_of {op : HloOp τ sig (Elt F)} (y : Ref sig .tc) (hw : op.writes = {Proc.devRef (τ := τ) .tc y})
    (hy : 13 ≤ y.idx.val) : Keeps op := by
  intro r hr hm
  rw [hw, Finset.mem_singleton] at hm
  exact absurd (argRefs_idx _ (Proc.devRef_injective _ hm ▸ hr)) (Nat.not_lt.mpr hy)

set_option maxHeartbeats 4000000 in
set_option maxRecDepth 100000 in
theorem opsA_keeps : (opsA (F := F)).Forall Keeps := by
  unfold opsA
  simp only [List.cons_append, List.nil_append, List.forall_cons, List.Forall]
  repeat' apply And.intro
  all_goals exact keeps_of _ rfl (Nat.le_of_ble_eq_true rfl)

set_option maxHeartbeats 4000000 in
set_option maxRecDepth 100000 in
theorem opsB_keeps : (opsB (F := F)).Forall Keeps := by
  unfold opsB
  simp only [List.cons_append, List.nil_append, List.forall_cons, List.Forall]
  repeat' apply And.intro
  all_goals exact keeps_of _ rfl (Nat.le_of_ble_eq_true rfl)

set_option maxHeartbeats 4000000 in
set_option maxRecDepth 100000 in
theorem opsC_keeps : (opsC (F := F)).Forall Keeps := by
  unfold opsC
  simp only [List.cons_append, List.nil_append, List.forall_cons, List.Forall]
  repeat' apply And.intro
  all_goals exact keeps_of _ rfl (Nat.le_of_ble_eq_true rfl)

set_option maxHeartbeats 4000000 in
set_option maxRecDepth 100000 in
theorem gumbelOps_keeps : ((gumbelOps (F := F)).1).Forall Keeps := by
  unfold gumbelOps
  dsimp only
  simp only [List.cons_append, List.nil_append, List.forall_cons, List.Forall]
  repeat' apply And.intro
  all_goals exact keeps_of _ rfl (Nat.le_of_ble_eq_true rfl)

set_option maxHeartbeats 4000000 in
set_option maxRecDepth 100000 in
theorem postOps_keeps : ((postOps (F := F)).1).Forall Keeps := by
  unfold postOps
  dsimp only
  simp only [List.cons_append, List.nil_append, List.forall_cons, List.Forall]
  repeat' apply And.intro
  all_goals exact keeps_of _ rfl (Nat.le_of_ble_eq_true rfl)

/-- The reference keeps its arguments. -/
theorem mainOps_keeps : ((mainOps (F := F)).1).Forall Keeps := by
  rw [mainOps_eq]
  simp only [List.forall_append, List.forall_cons]
  exact ⟨⟨opsA_keeps, keeps_of _ rfl (by decide), opsB_keeps, gumbelOps_keeps, opsC_keeps⟩, postOps_keeps⟩

/-- An argument's buffer ends as it began. -/
theorem arg_kept (W : Valuation τ sig (Elt F)) (r : Ref sig .tc) (hr : r ∈ argRefs) :
    after mainOps.1 W (Proc.devRef .tc r) = W (Proc.devRef .tc r) :=
  after_of_forall_not_mem _ _ fun op hop => List.forall_iff_forall_mem.mp mainOps_keeps op hop r hr

/-- The same after a list all of whose operations keep the arguments. -/
theorem kept {ops : List (HloOp τ sig (Elt F))} (h : ops.Forall Keeps) (W : Valuation τ sig (Elt F))
    (r : Ref sig .tc) (hr : r ∈ argRefs) : after ops W (Proc.devRef .tc r) = W (Proc.devRef .tc r) :=
  after_of_forall_not_mem _ _ fun op hop => List.forall_iff_forall_mem.mp h op hop r hr

set_option maxHeartbeats 4000000 in
set_option maxRecDepth 100000 in
/-- The indices chosen from the scores and the noise. -/
theorem opsC_indices (W : Valuation τ sig (Elt F)) :
    after opsC W (Proc.devRef .tc main_indices)
      = topR (addf (W (Proc.devRef .tc main_v36) : V F S16x2046) (W (Proc.devRef .tc main_v44))) := by
  unfold opsC
  after_results_simp
  rfl

set_option maxHeartbeats 4000000 in
set_option maxRecDepth 100000 in
/-- The column of zeros. -/
theorem opsC_v48 (W : Valuation τ sig (Elt F)) :
    after opsC W (Proc.devRef .tc main_v48) = broadcastInDim S16x1 ![] bcast_S_S16x1 (constantI S_ 32 0#32) := by
  unfold opsC
  after_results_simp

set_option maxHeartbeats 4000000 in
set_option maxRecDepth 100000 in
/-- The constant one. -/
theorem opsC_c_6 (W : Valuation τ sig (Elt F)) :
    after opsC W (Proc.devRef .tc main_c_6) = constantI S_ 32 1#32 := by
  unfold opsC
  after_results_simp

set_option maxHeartbeats 4000000 in
set_option maxRecDepth 100000 in
/-- The inner frames moved on by the constant. -/
theorem opsD_v50 (W : Valuation τ sig (Elt F)) :
    after opsD W (Proc.devRef .tc main_v50)
      = addi (W (Proc.devRef .tc main_indices) : I F S16x14) (broadcastInDim S16x14 ![] bcast_S_S16x14 (W (Proc.devRef .tc main_c_6))) := by
  unfold opsD
  after_results_simp

set_option maxHeartbeats 4000000 in
set_option maxRecDepth 100000 in
/-- The last border. -/
theorem opsD_v51 (W : Valuation τ sig (Elt F)) :
    after opsD W (Proc.devRef .tc main_v51) = broadcastInDim S16x1 ![] bcast_S_S16x1 (constantI S_ 32 2047#32) := by
  unfold opsD
  after_results_simp

set_option maxHeartbeats 4000000 in
set_option maxRecDepth 100000 in
/-- The first border. -/
theorem opsD_v48 (W : Valuation τ sig (Elt F)) :
    after opsD W (Proc.devRef .tc main_v48) = W (Proc.devRef .tc main_v48) := by
  unfold opsD
  after_results_simp

/-- The three columns put side by side. -/
theorem opRow_value (W : Valuation τ sig (Elt F)) :
    opRow.result W (Proc.devRef .tc main_v52) = rowR (W (Proc.devRef .tc main_v48)) (W (Proc.devRef .tc main_v50)) (W (Proc.devRef .tc main_v51)) := by
  unfold opRow
  rw [nary_result']
  rfl

/-- The sort. -/
theorem opSort_value (W : Valuation τ sig (Elt F)) :
    opSort.result W (Proc.devRef .tc main_v53) = Host.sort S16x16 1 comparator_i32_d1 (W (Proc.devRef .tc main_v52) : I F S16x16) := by
  unfold opSort
  rw [unary_result']

/-- The sorted choice, from the indices. -/
theorem post_value (W : Valuation τ sig (Elt F)) :
    after postOps.1 W (Proc.devRef .tc main_v53)
      = sortR (W (Proc.devRef .tc main_v48)) (W (Proc.devRef .tc main_indices)) (W (Proc.devRef .tc main_c_6)) := by
  have h : after postOps.1 W = opSort.result (opRow.result (after opsD W)) := by
    rw [postOps_eq, after_append]; rfl
  rw [h, opSort_value, opRow_value, opsD_v48, opsD_v50, opsD_v51]
  rfl

/-- The sorted choice, from the scores and the noise. -/
theorem pick_value (W : Valuation τ sig (Elt F)) :
    after postOps.1 (after opsC W) (Proc.devRef .tc main_v53)
      = pickR (addf (W (Proc.devRef .tc main_v36) : V F S16x2046) (W (Proc.devRef .tc main_v44))) := by
  rw [post_value, opsC_v48, opsC_indices, opsC_c_6]
  rfl

/-- The features after their concatenation. -/
theorem feat_value (W : Valuation τ sig (Elt F)) (x e : V F S16x2046x256)
    (hx : W (Proc.devRef .tc main_v17) = x) (he : W (Proc.devRef .tc main_v19) = e)
    (hs : W (Proc.devRef .tc main_v23) = subf x e) (hp : W (Proc.devRef .tc main_v24) = mulf x e)
    (hd : W (Proc.devRef .tc main_v22) = broadcastInDim S16x2046x1 ![0, 1] bcast_S16x2046_S16x2046x1_0_1
      (Host.reduceAdd (mulf x e) (constant S_ .f32 0x00000000#32) reducesTo_S16x2046x256_S16x2046_d2 h_S_)) :
    opFeat.result W (Proc.devRef .tc main_v25) = featR x e := by
  have key : ∀ (a b c d : V F S16x2046x256) (f : V F S16x2046x1), a = x → b = e → c = subf x e → d = mulf x e →
      f = broadcastInDim S16x2046x1 ![0, 1] bcast_S16x2046_S16x2046x1_0_1
        (Host.reduceAdd (mulf x e) (constant S_ .f32 0x00000000#32) reducesTo_S16x2046x256_S16x2046_d2 h_S_) →
      concatenate S16x2046x1025 2 [⟨S16x2046x256, a⟩, ⟨S16x2046x256, b⟩, ⟨S16x2046x256, c⟩, ⟨S16x2046x256, d⟩, ⟨S16x2046x1, f⟩]
        concatenates_S16x2046x256_S16x2046x256_S16x2046x256_S16x2046x256_S16x2046x1_S16x2046x1025_d2 = featR x e := by
    rintro _ _ _ _ _ rfl rfl rfl rfl rfl
    rfl
  unfold opFeat
  rw [nary_result']
  exact key _ _ _ _ _ hx he hs hp hd

/-- No semaphore is declared, so each counter is the one it started at. -/
theorem sem_zero (s : GSem nD τ sig → Int) : s = fun _ => 0 := by
  funext g
  obtain ⟨_, g⟩ := g
  cases g with
  | reg s => exact Fin.elim0 (show Fin 0 from s)
  | dma s => exact Fin.elim0 (show Fin 0 from s)

/-- The scores after the operations before the noise. -/
theorem scores_value (W : Valuation τ sig (Elt F)) :
    after opsB (opFeat.result (after opsA W)) (Proc.devRef .tc main_v36)
      = scoreR (midR (W (Proc.devRef .tc main_arg0)) (condR (W (Proc.devRef .tc main_arg1)) (W (Proc.devRef .tc main_arg2))
            (W (Proc.devRef .tc main_arg3)) (W (Proc.devRef .tc main_arg4)) (W (Proc.devRef .tc main_arg5)))
          (W (Proc.devRef .tc main_arg6)) (W (Proc.devRef .tc main_arg7)))
        (embR (W (Proc.devRef .tc main_arg8))) (W (Proc.devRef .tc main_arg9)) (W (Proc.devRef .tc main_arg10))
        (W (Proc.devRef .tc main_arg11)) (W (Proc.devRef .tc main_arg12)) := by
  have hk : ∀ r ∈ argRefs, opFeat.result (after opsA W) (Proc.devRef .tc r) = W (Proc.devRef .tc r) := by
    intro r hr
    rw [opFeat.result_of_not_mem _ (keeps_of (op := opFeat (F := F)) _ rfl (Nat.le_of_ble_eq_true rfl) r hr), kept opsA_keeps W r hr]
  rw [opsB_v36 _ _ _ (feat_value _ _ _ (opsA_v17 W) (opsA_v19 W) (opsA_v23 W) (opsA_v24 W) (opsA_v22 W)),
    hk main_arg9 (by decide), hk main_arg10 (by decide), hk main_arg11 (by decide), hk main_arg12 (by decide)]

/-- The reference's result: the choice from the scores, perturbed by the noise drawn from the key. -/
theorem value (W : Valuation τ sig (Elt F)) :
    ∃ W' : Valuation τ sig (Elt F), W' (Proc.devRef .tc main_v43) = keyR (F := F) ∧
    after mainOps.1 W (Proc.devRef .tc main_v53)
      = pickR (addf (scoreR (midR (W (Proc.devRef .tc main_arg0)) (condR (W (Proc.devRef .tc main_arg1)) (W (Proc.devRef .tc main_arg2))
            (W (Proc.devRef .tc main_arg3)) (W (Proc.devRef .tc main_arg4)) (W (Proc.devRef .tc main_arg5)))
          (W (Proc.devRef .tc main_arg6)) (W (Proc.devRef .tc main_arg7)))
        (embR (W (Proc.devRef .tc main_arg8))) (W (Proc.devRef .tc main_arg9)) (W (Proc.devRef .tc main_arg10))
        (W (Proc.devRef .tc main_arg11)) (W (Proc.devRef .tc main_arg12)))
        (after gumbelOps.1 W' (Proc.devRef .tc main_v44))) := by
  refine ⟨after opsB (opFeat.result (after opsA W)), opsB_v43 _, ?_⟩
  rw [mainOps_eq, after_append, after_append, after_cons, after_append, after_append, pick_value, gumbelOps_v36, scores_value]

end Cert.ReferenceIdeal.Ours

end
-- ==== Proof.RefFrame.lean ====
/-
  The reference terminates with its arguments unchanged and every counter at zero.
-/
module

public import proofs.«01_k».proof.Proof.RefRun
public import Idealize.ShloMosaic.Lib.Claim

@[expose] public section

noncomputable section

namespace Cert.ReferenceIdeal.Ours

open Idealize.ShloMosaic Idealize.ShloMosaic.TcCoe
open Idealize.SL Idealize.SL.Sem
open Cert.ReferenceIdeal

variable [Facts] {F : FTy → Type} [FloatOps F]
variable (m : (ℓ : Loc nD τ sig) → Buf (Elt F) ℓ) (ρ : Dev nD → PrngReg)

/-- The arguments end unchanged and every counter at zero. -/
theorem frame_zero : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) ∧ r.2.sem = fun _ => 0) :=
  (θ_run defs _ _).mono (fun _ h => ⟨fun c => ⟨(h c main_arg0).trans (arg_kept _ main_arg0 (by decide)),
    (h c main_arg1).trans (arg_kept _ main_arg1 (by decide)),
    (h c main_arg2).trans (arg_kept _ main_arg2 (by decide)),
    (h c main_arg3).trans (arg_kept _ main_arg3 (by decide)),
    (h c main_arg4).trans (arg_kept _ main_arg4 (by decide)),
    (h c main_arg5).trans (arg_kept _ main_arg5 (by decide)),
    (h c main_arg6).trans (arg_kept _ main_arg6 (by decide)),
    (h c main_arg7).trans (arg_kept _ main_arg7 (by decide)),
    (h c main_arg8).trans (arg_kept _ main_arg8 (by decide)),
    (h c main_arg9).trans (arg_kept _ main_arg9 (by decide)),
    (h c main_arg10).trans (arg_kept _ main_arg10 (by decide)),
    (h c main_arg11).trans (arg_kept _ main_arg11 (by decide)),
    (h c main_arg12).trans (arg_kept _ main_arg12 (by decide))⟩, sem_zero _⟩) (run m ρ)

end Cert.ReferenceIdeal.Ours
-- ==== Proof.ScoreK.lean ====
/-
  The kernel's slab of scores and its conditioning vector, read at one place as sums over elements.
-/
module

public import proofs.«01_k».proof.Proof.Pick
public import Idealize.ShloMosaic.Lib.Pointwise

@[expose] public section

noncomputable section

namespace Cert.KernelIdeal.Ours

open Idealize.ShloMosaic
open Cert.KernelIdeal Cert.KernelIdeal.Gen

/-- One score of a slab: the middle features through the three folded weight blocks, the rectifier, the last
    column, then the noise and the last bias. -/
theorem slab_at (x7 : Vec Ideal S1x1 .f32) (x8 : Vec Ideal S16x256x256 .f32) (x9 : Vec Ideal S256x256 .f32)
    (x10 : Vec Ideal S16x256 .f32) (x11 x12 x13 x14 : Vec Ideal S256x256 .f32) (x15 : Vec Ideal S1x256 .f32)
    (x16 : Vec Ideal S256x1 .f32) (cond : Vec Ideal S16x256 .f32) (b : Fin 16) (q : Fin 256) :
    slab x7 x8 x9 x10 x11 x12 x13 x14 x15 x16 cond (ix2 b q)
      = ((∑ i : Fin 256,
          max
            (((∑ j : Fin 256, ((∑ k : Fin 256, x8 (ix3 b q k) * x11 (ix2 k j)) + cond (ix2 b j)) * x12 (ix2 j i))
                + (∑ j : Fin 256, ((∑ k : Fin 256, x8 (ix3 b q k) * x11 (ix2 k j)) + cond (ix2 b j))
                    * x9 (ix2 q j) * x13 (ix2 j i))
                + (∑ j : Fin 256, x9 (ix2 q j) * x14 (ix2 j i)))
              + x15 (ix2 0 i)) (0 : EReal)
            * x16 (ix2 i 0))
          + x10 (ix2 b q) + x7 (ix2 0 0) : EReal) := by
  pointwise [slab, k0_pay1, k0_pay68]

/-- One entry of the conditioning vector: two layers and the lower half of the feature layer. -/
theorem cond_at (x0 : Vec Ideal S16x2 .f32) (x1 : Vec Ideal S2x512 .f32) (x2 : Vec Ideal S1x512 .f32)
    (x3 : Vec Ideal S512x256 .f32) (x4 : Vec Ideal S1x256 .f32) (x5 : Vec Ideal S256x256 .f32)
    (x6 : Vec Ideal S1x256 .f32) (b : Fin 16) (j : Fin 256) :
    k0_pay67 x0 x1 x2 x3 x4 x5 x6 (ix2 b j)
      = ((∑ k : Fin 256,
          ((∑ l : Fin 512,
              max ((∑ u : Fin 2, x0 (ix2 b u) * x1 (ix2 u l)) + x2 (ix2 0 l)) (0 : EReal) * x3 (ix2 l k))
            + x4 (ix2 0 k)) * x5 (ix2 k j)) + x6 (ix2 0 j) : EReal) := by
  pointwise [k0_pay67]

end Cert.KernelIdeal.Ours
-- ==== Proof.ScoreR.lean ====
/-
  The reference's scores, read at one place as sums over elements.
-/
module

public import proofs.«01_k».proof.Proof.RefPieces
public import Idealize.ShloMosaic.Lib.Pointwise

@[expose] public section

noncomputable section

namespace Cert.ReferenceIdeal.Ours

open Idealize.ShloMosaic
open Cert.ReferenceIdeal
open Facts₀ Facts

/-- A sum over the 1025 features of a frame, cut at the borders of the five pieces. -/
theorem sum_pieces (f : Fin 1025 → EReal) :
    ∑ i, f i = (∑ j : Fin 256, f ⟨j.val, by omega⟩) + ((∑ j : Fin 256, f ⟨256 + j.val, by omega⟩)
      + ((∑ j : Fin 256, f ⟨512 + j.val, by omega⟩) + ((∑ j : Fin 256, f ⟨768 + j.val, by omega⟩)
        + f ⟨1024, by omega⟩))) := by
  have h1 := Fin.sum_univ_add (a := 256) (b := 769) f
  have h2 := Fin.sum_univ_add (a := 256) (b := 513) fun i => f (Fin.natAdd 256 i)
  have h3 := Fin.sum_univ_add (a := 256) (b := 257) fun i => f (Fin.natAdd 256 (Fin.natAdd 256 i))
  have h4 := Fin.sum_univ_add (a := 256) (b := 1) fun i => f (Fin.natAdd 256 (Fin.natAdd 256 (Fin.natAdd 256 i)))
  rw [h2, h3, h4, Fin.sum_univ_one] at h1
  refine h1.trans ?_
  refine congrArg₂ _ rfl (congrArg₂ _ rfl (congrArg₂ _ ?_ (congrArg₂ _ ?_ rfl)))
  · exact Finset.sum_congr rfl fun j _ => congrArg f (Fin.ext (by simp; omega))
  · exact Finset.sum_congr rfl fun j _ => congrArg f (Fin.ext (by simp; omega))

variable [Facts]

/-- One entry of the conditioning network. -/
theorem condR_at (a1 a2 a3 a4 a5) (b : Fin 16) (k : Fin 256) :
    condR (F := Ideal) a1 a2 a3 a4 a5 (ix2 b k)
      = ((∑ l : Fin 512, max ((∑ u : Fin 2, a1 (ix2 b u) * a2 (ix2 u l)) + a3 (ix1 l)) (0 : EReal) * a4 (ix2 l k))
          + a5 (ix1 k) : EReal) := by
  pointwise [condR]

/-- One middle feature of a frame. -/
theorem midR_at (a0 cond a6 a7) (b : Fin 16) (n : Fin 2046) (k : Fin 256) :
    midR (F := Ideal) a0 cond a6 a7 (ix3 b n k)
      = ((∑ l : Fin 256, a0 (ix3 b (⟨1 + n.val, by omega⟩ : Fin 2048) l) * a6 (ix2 (⟨l.val, by omega⟩ : Fin 512) k))
          + (∑ l : Fin 256, cond (ix2 b l) * a6 (ix2 (⟨256 + l.val, by omega⟩ : Fin 512) k)) + a7 (ix1 k) : EReal) := by
  pointwise [midR]

/-- The embedding of a frame does not depend on the row. -/
theorem embR_at (a8) (b : Fin 16) (n : Fin 2046) (k : Fin 256) : embR (F := Ideal) a8 (ix3 b n k) = a8 (ix2 n k) := by
  pointwise [embR]

/-- One score. -/
theorem scoreR_at (x e a9 a10 a11 a12) (b : Fin 16) (n : Fin 2046) :
    scoreR (F := Ideal) x e a9 a10 a11 a12 (ix2 b n)
      = ((∑ i : Fin 256,
          max (((∑ j : Fin 256, x (ix3 b n j) * a9 (ix2 (⟨j.val, by omega⟩ : Fin 1025) i))
              + ((∑ j : Fin 256, e (ix3 b n j) * a9 (ix2 (⟨256 + j.val, by omega⟩ : Fin 1025) i))
              + ((∑ j : Fin 256, (x (ix3 b n j) - e (ix3 b n j)) * a9 (ix2 (⟨512 + j.val, by omega⟩ : Fin 1025) i))
              + ((∑ j : Fin 256, x (ix3 b n j) * e (ix3 b n j) * a9 (ix2 (⟨768 + j.val, by omega⟩ : Fin 1025) i))
              + (∑ j : Fin 256, x (ix3 b n j) * e (ix3 b n j)) * a9 (ix2 (⟨1024, by omega⟩ : Fin 1025) i)))))
              + a10 (ix1 i)) (0 : EReal) * a11 (ix2 i 0)) + a12 (ix1 0) : EReal) := by
  pointwise [scoreR, featR]
  refine congrArg₂ _ (Finset.sum_congr rfl fun i _ => ?_) rfl
  refine congrArg₂ _ (congrArg₂ _ (congrArg₂ _ ?_ rfl) rfl) rfl
  rw [sum_pieces]
  refine congrArg₂ _ ?_ (congrArg₂ _ ?_ (congrArg₂ _ ?_ (congrArg₂ _ ?_ ?_)))
  · refine Finset.sum_congr rfl fun j _ => ?_
    rw [dif_pos (by exact j.isLt)]
  · refine Finset.sum_congr rfl fun j _ => ?_
    rw [dif_neg (by simp), dif_pos (by simp)]
    simp
  · refine Finset.sum_congr rfl fun j _ => ?_
    rw [dif_neg (by simp; omega), dif_neg (by simp; omega), dif_pos (by simp; omega)]
    simp [Nat.add_sub_cancel_left, show 512 + j.val - 256 - 256 = j.val by omega]
  · refine Finset.sum_congr rfl fun j _ => ?_
    rw [dif_neg (by simp; omega), dif_neg (by simp; omega), dif_neg (by simp; omega), dif_pos (by simp; omega)]
    simp [show 768 + j.val - 256 - 256 - 256 = j.val by omega]
  · rw [dif_neg (by simp), dif_neg (by simp), dif_neg (by simp), dif_neg (by simp)]
    rfl

end Cert.ReferenceIdeal.Ours
-- ==== Proof.Blocks.lean ====
/-
  The kernel's input blocks, read at one place of the arrays they are cut from.
-/
module

public import proofs.«01_k».proof.Proof.KernelRun
public import Idealize.ShloMosaic.Lib.Pointwise
public import Idealize.ShloMosaic.Lib.Pipeline.ValueKit

@[expose] public section

noncomputable section

namespace Cert.KernelIdeal.Ours

open Idealize.ShloMosaic Idealize.ShloMosaic.TcCoe
open Cert.KernelIdeal Cert.KernelIdeal.Gen

variable (m : (ℓ : Loc nD τ sig) → Buf (Elt Ideal) ℓ) (c : Dev nD) (t : Fin cfg0.N)

/-- Where each window's block stands at a point: three move along the columns, the others stay. -/
theorem stands :
    win0_0.index t = ![0, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![0, t.val, 0] ∧ win0_9.index t = ![t.val, 0] ∧ win0_10.index t = ![0, t.val]
      ∧ win0_11.index t = ![0, 0] ∧ win0_12.index t = ![0, 0] ∧ win0_13.index t = ![0, 0] ∧ win0_14.index t = ![0, 0]
      ∧ win0_15.index t = ![0, 0] ∧ win0_16.index t = ![0, 0] := by
  revert t; decide +kernel

/-- The block of frame features. -/
theorem blk8 (b : Fin 16) (q k : Fin 256) (p : Fin 2048) (h : 256 * t.val + q.val = p.val) :
    iblk m c 8 t (ix3 b q k) = V m c main_arg0 (ix3 b p k) := by
  blk_ext [iblk, stands t]

/-- The block of embeddings. -/
theorem blk9 (q k : Fin 256) (p : Fin 2048) (h : 256 * t.val + q.val = p.val) :
    iblk m c 9 t (ix2 q k) = V m c main_v25 (ix2 p k) := by
  blk_ext [iblk, stands t]

/-- The block of noise. -/
theorem blk10 (b : Fin 16) (q : Fin 256) (p : Fin 2048) (h : 256 * t.val + q.val = p.val) :
    iblk m c 10 t (ix2 b q) = V m c main_v24 (ix2 b p) := by
  blk_ext [iblk, stands t]

set_option maxHeartbeats 8000000 in
/-- The other windows hold their whole arrays at every point. -/
theorem blks :
    (∀ (i : Fin 16) (j : Fin 2), iblk m c 0 t (ix2 i j) = V m c main_arg1 (ix2 i j))
      ∧ (∀ (i : Fin 2) (j : Fin 512), iblk m c 1 t (ix2 i j) = V m c main_arg2 (ix2 i j))
      ∧ (∀ (i : Fin 1) (j : Fin 512), iblk m c 2 t (ix2 i j) = V m c main_v26 (ix2 i j))
      ∧ (∀ (i : Fin 512) (j : Fin 256), iblk m c 3 t (ix2 i j) = V m c main_arg4 (ix2 i j))
      ∧ (∀ (i : Fin 1) (j : Fin 256), iblk m c 4 t (ix2 i j) = V m c main_v27 (ix2 i j))
      ∧ (∀ (i : Fin 256) (j : Fin 256), iblk m c 5 t (ix2 i j) = V m c main_v15 (ix2 i j))
      ∧ (∀ (i : Fin 1) (j : Fin 256), iblk m c 6 t (ix2 i j) = V m c main_v28 (ix2 i j))
      ∧ (∀ (i : Fin 1) (j : Fin 1), iblk m c 7 t (ix2 i j) = V m c main_v29 (ix2 i j))
      ∧ (∀ (i : Fin 256) (j : Fin 256), iblk m c 11 t (ix2 i j) = V m c main_v14 (ix2 i j))
      ∧ (∀ (i : Fin 256) (j : Fin 256), iblk m c 12 t (ix2 i j) = V m c main_v6 (ix2 i j))
      ∧ (∀ (i : Fin 256) (j : Fin 256), iblk m c 13 t (ix2 i j) = V m c main_v12 (ix2 i j))
      ∧ (∀ (i : Fin 256) (j : Fin 256), iblk m c 14 t (ix2 i j) = V m c main_v13 (ix2 i j))
      ∧ (∀ (i : Fin 1) (j : Fin 256), iblk m c 15 t (ix2 i j) = V m c main_v30 (ix2 i j))
      ∧ (∀ (i : Fin 256) (j : Fin 1), iblk m c 16 t (ix2 i j) = V m c main_arg11 (ix2 i j)) := by
  refine ⟨?_, ?_, ?_, ?_, ?_, ?_, ?_, ?_, ?_, ?_, ?_, ?_, ?_, ?_⟩ <;> (intro i j; blk_ext [iblk, stands t])

end Cert.KernelIdeal.Ours
-- ==== Proof.HostVals.lean ====
/-
  What the kernel's program hands its launch: the arrays computed before it, read at one place.
-/
module

public import proofs.«01_k».proof.Proof.Lists
public import proofs.«01_k».proof.Proof.Gen.KernelIdeal.Frame
public import Idealize.ShloMosaic.Lib.Pointwise
public import Idealize.ShloMosaic.Lib.StableHlo.ReadAt

@[expose] public section

noncomputable section

namespace Cert.KernelIdeal.Ours

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- The weights the middle features meet: first and third block of rows. -/
theorem V_v6 (a9 : Vec Ideal S1025x256 .f32) (h9 : m (c, main_arg9) = a9) (k j : Fin 256) : (V m c main_v6 : Vec Ideal S256x256 .f32) (ix2 k j)
    = (a9 (ix2 (⟨k.val, by omega⟩ : Fin 1025) j)
      + a9 (ix2 (⟨512 + k.val, by omega⟩ : Fin 1025) j) : EReal) := by
  subst h9
  unfold V
  after_reads_at

/-- The weights the products meet: the fourth block of rows and the last row. -/
theorem V_v12 (a9 : Vec Ideal S1025x256 .f32) (h9 : m (c, main_arg9) = a9) (k j : Fin 256) : (V m c main_v12 : Vec Ideal S256x256 .f32) (ix2 k j)
    = (a9 (ix2 (⟨768 + k.val, by omega⟩ : Fin 1025) j)
      + a9 (ix2 (⟨1024, by omega⟩ : Fin 1025) j) : EReal) := by
  subst h9
  unfold V
  after_reads_at

/-- The weights the embeddings meet: second less third block of rows. -/
theorem V_v13 (a9 : Vec Ideal S1025x256 .f32) (h9 : m (c, main_arg9) = a9) (k j : Fin 256) : (V m c main_v13 : Vec Ideal S256x256 .f32) (ix2 k j)
    = (a9 (ix2 (⟨256 + k.val, by omega⟩ : Fin 1025) j)
      - a9 (ix2 (⟨512 + k.val, by omega⟩ : Fin 1025) j) : EReal) := by
  subst h9
  unfold V
  after_reads_at

/-- The upper half of the feature layer. -/
theorem V_v14 (a6 : Vec Ideal S512x256 .f32) (h6 : m (c, main_arg6) = a6) (k j : Fin 256) : (V m c main_v14 : Vec Ideal S256x256 .f32) (ix2 k j)
    = a6 (ix2 (⟨k.val, by omega⟩ : Fin 512) j) := by
  subst h6
  unfold V
  after_reads_at

/-- The lower half of the feature layer. -/
theorem V_v15 (a6 : Vec Ideal S512x256 .f32) (h6 : m (c, main_arg6) = a6) (k j : Fin 256) : (V m c main_v15 : Vec Ideal S256x256 .f32) (ix2 k j)
    = a6 (ix2 (⟨256 + k.val, by omega⟩ : Fin 512) j) := by
  subst h6
  unfold V
  after_reads_at

/-- The biases, as rows. -/
theorem V_rows
    (a3 : Vec Ideal S512 .f32) (a5 : Vec Ideal S256 .f32) (a7 : Vec Ideal S256 .f32) (a10 : Vec Ideal S256 .f32) (a12 : Vec Ideal S1 .f32)
    (h3 : m (c, main_arg3) = a3) (h5 : m (c, main_arg5) = a5) (h7 : m (c, main_arg7) = a7) (h10 : m (c, main_arg10) = a10) (h12 : m (c, main_arg12) = a12) :
    (∀ i : Fin 512, (V m c main_v26 : Vec Ideal S1x512 .f32) (ix2 0 i) = a3 (ix1 i))
      ∧ (∀ i : Fin 256, (V m c main_v27 : Vec Ideal S1x256 .f32) (ix2 0 i) = a5 (ix1 i))
      ∧ (∀ i : Fin 256, (V m c main_v28 : Vec Ideal S1x256 .f32) (ix2 0 i) = a7 (ix1 i))
      ∧ (V m c main_v29 : Vec Ideal S1x1 .f32) (ix2 0 0) = a12 (ix1 0)
      ∧ (∀ i : Fin 256, (V m c main_v30 : Vec Ideal S1x256 .f32) (ix2 0 i) = a10 (ix1 i)) := by
  subst h3 h5 h7 h10 h12
  unfold V
  refine ⟨fun i => ?_, fun i => ?_, fun i => ?_, ?_, fun i => ?_⟩ <;> after_reads_at

/-- The embeddings, with a row of zeros put before and after. -/
theorem V_v25 (a8 : Vec Ideal S2046x256 .f32) (h8 : m (c, main_arg8) = a8) (p : Fin 2048) (j : Fin 256) : (V m c main_v25 : Vec Ideal S2048x256 .f32) (ix2 p j)
    = if h : 1 ≤ p.val ∧ p.val - 1 < 2046 then
        a8 (ix2 (⟨p.val - 1, h.2⟩ : Fin 2046) j) else (0 : EReal) := by
  subst h8
  unfold V
  after_reads_at
  have h0 : (FloatOps.sitofp (F := Ideal) FTy.f32 0#32 : EReal) = 0 := by
    first | simp | simp [FloatOps.sitofp]
  rw [h0]

/-- The kernel's noise: what its operations leave from the key. -/
def noiseK : Vec Ideal S16x2046 .f32 :=
  after hostOps0_1 (after hostOps0 fun b => m (c, b)) main_v23

/-- The noise, with a column of `-∞` put before and after. -/
theorem V_v24 (b : Fin 16) (p : Fin 2048) : (V m c main_v24 : Vec Ideal S16x2048 .f32) (ix2 b p)
    = if h : 1 ≤ p.val ∧ p.val - 1 < 2046 then noiseK m c (ix2 b (⟨p.val - 1, h.2⟩ : Fin 2046)) else (⊥ : EReal) := by
  have h : V m c main_v24 = after (hostOps0_2 ++ (hostOps0_3 ++ (hostOps0_4 ++ (hostOps0_5 ++ hostOps0_6))))
      (after hostOps0_1 (after hostOps0 fun b => m (c, b))) main_v24 := by
    unfold V
    simp only [List.flatten_cons, List.flatten_nil, List.append_nil]
    rw [Cert.Ours.after_append, Cert.Ours.after_append]
  rw [h]
  unfold noiseK
  generalize after hostOps0_1 (after hostOps0 fun b => m (c, b)) = W
  after_reads_at
  have h0 : (id (constant (F := Ideal) S_ FTy.f32 4286578688#32) (Shape.Idx.first h_S_) : EReal) = ⊥ := by
    simp [constant, Ideal.ofBits, Ideal.ieee]
  rw [h0]

end Cert.KernelIdeal.Ours
-- ==== Proof.Finite.lean ====
/-
  Finite elements: what the precondition says of each argument, and that sums, products, differences and
  rectified values of finite elements are finite.
-/
module

public import proofs.«01_k».proof.Defs
public import Idealize.ShloMosaic.Lib.ReduceAll
public import Idealize.ShloMosaic.Lib.Pointwise

@[expose] public section

noncomputable section

namespace Cert.Ours

open Idealize.ShloMosaic

/-- The function's shape relations. -/
theorem finiteFacts : Cert.Pre_finite.Facts := by
  constructor <;> decide

/-- A real number. -/
def IsReal (x : EReal) : Prop := ∃ r : ℝ, x = (r : EReal)

theorem IsReal.zero : IsReal 0 := ⟨0, rfl⟩

theorem IsReal.add {x y : EReal} : IsReal x → IsReal y → IsReal (x + y)
  | ⟨r, hr⟩, ⟨s, hs⟩ => ⟨r + s, by rw [hr, hs, EReal.coe_add]⟩

theorem IsReal.sub {x y : EReal} : IsReal x → IsReal y → IsReal (x - y)
  | ⟨r, hr⟩, ⟨s, hs⟩ => ⟨r - s, by rw [hr, hs, EReal.coe_sub]⟩

theorem IsReal.mul {x y : EReal} : IsReal x → IsReal y → IsReal (x * y)
  | ⟨r, hr⟩, ⟨s, hs⟩ => ⟨r * s, by rw [hr, hs, EReal.coe_mul]⟩

theorem IsReal.max {x y : EReal} (hx : IsReal x) (hy : IsReal y) : IsReal (Max.max x y) := by
  rcases max_choice x y with h | h <;> rw [h] <;> assumption

theorem IsReal.sum {n : ℕ} {f : Fin n → EReal} (h : ∀ i, IsReal (f i)) : IsReal (∑ i, f i) :=
  Finset.sum_induction f IsReal (fun _ _ => IsReal.add) IsReal.zero fun i _ => h i

theorem IsReal.ne_bot {x : EReal} : IsReal x → x ≠ ⊥
  | ⟨r, hr⟩ => by rw [hr]; exact EReal.coe_ne_bot r

theorem IsReal.ne_top {x : EReal} : IsReal x → x ≠ ⊤
  | ⟨r, hr⟩ => by rw [hr]; exact EReal.coe_ne_top r

/-- An element whose absolute value is below `∞` is a real number. -/
theorem isReal_of_lt {x : EReal} (h : Max.max x (-x) < ⊤) : IsReal x := by
  rw [max_lt_iff] at h
  induction x using EReal.rec with
  | bot => simp at h
  | top => simp at h
  | coe r => exact ⟨r, rfl⟩

/-- If all of an array's elements pass the test, each is a real number. -/
theorem isReal_of_all {s : Shape} {axes : List (Fin s.rank)} (x : FVec Ideal s .f32)
    (hb : Cert.Pre_finite.S_.BroadcastsInDim s (![] : Fin 0 → Fin s.rank)) (hr : s.ReducesTo axes Cert.Pre_finite.S_)
    (hu : 0 < Cert.Pre_finite.S_.numel) (j : Cert.Pre_finite.S_.Idx)
    (e : Host.reduce IntOp.andi (cmpf .olt (Host.absf x)
      (broadcastInDim s ![] hb (constant Cert.Pre_finite.S_ .f32 0x7F800000#32)))
      (constantI Cert.Pre_finite.S_ 1 1#1) hr hu j = 1#1) (i : s.Idx) : IsReal (x i) := by
  haveI : Subsingleton Cert.Pre_finite.S_.Idx := ⟨fun a b => funext fun k => k.elim0⟩
  have h := Host.reduce_andi_all _ _ hr hu j e i
  have ht : Ideal.ofBits .f32 0x7F800000#32 = ⊤ := by simp [Ideal.ofBits, Ideal.ieee]
  refine isReal_of_lt ?_
  simp only [cmpf, Host.absf, broadcastInDim, constant] at h
  change BitVec.ofBool (decide (Max.max (x i) (-(x i)) < Ideal.ofBits .f32 0x7F800000#32)) = 1#1 at h
  rw [ht] at h
  by_contra hc
  rw [decide_eq_false hc] at h
  exact absurd h (by decide)

open Cert.Pre_finite in
/-- The precondition makes every element of every argument a real number. -/
theorem finite_args [Cert.Pre_finite.Facts] (x0 x1 x2 x3 x4 x5 x6 x7 x8 x9 x10 x11 x12)
    (h : Cert.Pre_finite.fn (F := Ideal) x0 x1 x2 x3 x4 x5 x6 x7 x8 x9 x10 x11 x12 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i))
      ∧ (∀ i, IsReal (x9 i)) ∧ (∀ i, IsReal (x10 i)) ∧ (∀ i, IsReal (x11 i)) ∧ (∀ i, IsReal (x12 i)) := by
  have h0 := congrFun h fun k => k.elim0
  simp only [fn, fn_part1, fn_part2, fn_part3, andi, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨isReal_of_all _ _ _ _ _ e0, isReal_of_all _ _ _ _ _ e1, isReal_of_all _ _ _ _ _ e2,
    isReal_of_all _ _ _ _ _ e3, isReal_of_all _ _ _ _ _ e4, isReal_of_all _ _ _ _ _ e5,
    isReal_of_all _ _ _ _ _ e6, isReal_of_all _ _ _ _ _ e7, isReal_of_all _ _ _ _ _ e8,
    isReal_of_all _ _ _ _ _ e9, isReal_of_all _ _ _ _ _ e10, isReal_of_all _ _ _ _ _ e11,
    isReal_of_all _ _ _ _ _ e12⟩

end Cert.Ours
-- ==== Proof.Weights.lean ====
/-
  The algebra of the kernel: folding the five pieces of the score layer into three products.
-/
module

public import proofs.«01_k».proof.Proof.Finite

@[expose] public section

noncomputable section

namespace Cert.Ours

/-- A sum of real numbers, taken among the extended ones. -/
theorem sum_coe {n : ℕ} (f : Fin n → ℝ) : ∑ i, ((f i : ℝ) : EReal) = ((∑ i, f i : ℝ) : EReal) := by
  induction n with
  | zero => simp
  | succ n ih => rw [Fin.sum_univ_succ, Fin.sum_univ_succ, EReal.coe_add, ih]

/-- The pieces `x`, `e`, `x - e`, `x * e` and their dot product against their weights are three products against
    folded weights, if all are real numbers. -/
theorem fold_weights {x e A B C D : Fin 256 → EReal} {v : EReal} (hx : ∀ j, IsReal (x j)) (he : ∀ j, IsReal (e j))
    (hA : ∀ j, IsReal (A j)) (hB : ∀ j, IsReal (B j)) (hC : ∀ j, IsReal (C j)) (hD : ∀ j, IsReal (D j))
    (hv : IsReal v) :
    (∑ j, x j * (A j + C j)) + (∑ j, x j * e j * (D j + v)) + (∑ j, e j * (B j - C j))
      = (∑ j, x j * A j) + ((∑ j, e j * B j) + ((∑ j, (x j - e j) * C j) + ((∑ j, x j * e j * D j)
        + (∑ j, x j * e j) * v))) := by
  choose x' hx using hx
  choose e' he using he
  choose A' hA using hA
  choose B' hB using hB
  choose C' hC using hC
  choose D' hD using hD
  obtain ⟨v', rfl⟩ := hv
  simp only [hx, he, hA, hB, hC, hD, ← EReal.coe_add, ← EReal.coe_sub, ← EReal.coe_mul, sum_coe]
  refine congrArg _ ?_
  rw [Finset.sum_mul]
  simp only [← Finset.sum_add_distrib]
  exact Finset.sum_congr rfl fun j _ => by ring

end Cert.Ours
-- ==== Proof.Noise.lean ====
/-
  The Gumbel noise: both programs draw it by the same operations from the same key.
-/
module

public import proofs.«01_k».proof.Proof.RefOps
public import proofs.«01_k».proof.Proof.Lists
public import proofs.«01_k».proof.Proof.Gen.KernelIdeal.Launch

@[expose] public section

noncomputable section

namespace Cert.Ours

open Idealize.ShloMosaic Idealize.SL.Sem Idealize.ShloMosaic.StableHlo

variable {F : FTy → Type} [FloatOps F] [Cert.ReferenceIdeal.Facts] [Cert.KernelIdeal.Facts]

set_option maxHeartbeats 40000000 in
set_option maxRecDepth 100000 in
/-- From one key the two programs draw the same noise. -/
theorem noise_eq (VR : Valuation Cert.ReferenceIdeal.τ Cert.ReferenceIdeal.sig (Elt F))
    (VK : Valuation Cert.KernelIdeal.τ Cert.KernelIdeal.sig (Elt F))
    (key : (⟨Cert.ReferenceIdeal.S2, .i32⟩ : BufTy).Contents (Elt F))
    (hR : VR (Proc.devRef .tc Cert.ReferenceIdeal.main_v43) = key)
    (hK : VK (Proc.devRef .tc Cert.KernelIdeal.main_v22) = key) :
    (after Cert.ReferenceIdeal.Ours.gumbelOps.1 VR (Proc.devRef .tc Cert.ReferenceIdeal.main_v44)
        : (⟨Cert.ReferenceIdeal.S16x2046, .f32⟩ : BufTy).Contents (Elt F))
      = after Cert.KernelIdeal.Gen.hostOps0_1 VK (Proc.devRef .tc Cert.KernelIdeal.main_v23) := by
  change after (_ :: _) VR _ = _
  unfold Cert.KernelIdeal.Gen.hostOps0_1
  after_results_simp
  simp only [TRef.ofBuf_toBuf]
  simp only [hR, hK]
  rfl

open Cert.KernelIdeal Cert.KernelIdeal.Gen in
/-- The last steps of the noise: the draw is raised to the floor, then twice the log and the sign. -/
def noiseTail : List (HloOp Cert.KernelIdeal.τ Cert.KernelIdeal.sig (Elt F)) :=
  ( StableHlo.TRef.unary (.of main_call0_call0_v1 : StableHlo.TRef sig ⟨S1x1, .f32⟩) (.of main_call0_call0_v32 : StableHlo.TRef sig ⟨S16x2046, .f32⟩) (broadcastInDim S16x2046 ![0, 1] bcast_S1x1_S16x2046_0_1)
  :: StableHlo.TRef.binary (.of main_call0_call0_v32 : StableHlo.TRef sig ⟨S16x2046, .f32⟩) (.of main_call0_call0_v31 : StableHlo.TRef sig ⟨S16x2046, .f32⟩) (.of main_call0_v0 : StableHlo.TRef sig ⟨S16x2046, .f32⟩) maximumf
  :: StableHlo.TRef.unary main_call0_call0.v33 (.of main_call0_v1 : StableHlo.TRef sig ⟨S16x2046, .f32⟩) Host.log
  :: StableHlo.TRef.unary (.of main_call0_v1 : StableHlo.TRef sig ⟨S16x2046, .f32⟩) (.of main_call0_v2 : StableHlo.TRef sig ⟨S16x2046, .f32⟩) Host.negf
  :: StableHlo.TRef.unary (.of main_call0_v2 : StableHlo.TRef sig ⟨S16x2046, .f32⟩) (.of main_call0_v3 : StableHlo.TRef sig ⟨S16x2046, .f32⟩) Host.log
  :: StableHlo.TRef.unary (.of main_call0_v3 : StableHlo.TRef sig ⟨S16x2046, .f32⟩) (.of main_v23 : StableHlo.TRef sig ⟨S16x2046, .f32⟩) Host.negf
  :: [] )

/-- What the last steps leave. -/
theorem noiseTail_v23 (W : Valuation Cert.KernelIdeal.τ Cert.KernelIdeal.sig (Elt F)) :
    (after noiseTail W (Proc.devRef .tc Cert.KernelIdeal.main_v23)
        : (⟨Cert.KernelIdeal.S16x2046, .f32⟩ : BufTy).Contents (Elt F))
      = Host.negf (Host.log (Host.negf (Host.log (maximumf
          (broadcastInDim Cert.KernelIdeal.S16x2046 ![0, 1] Cert.KernelIdeal.Gen.bcast_S1x1_S16x2046_0_1
            (W (Proc.devRef .tc Cert.KernelIdeal.main_call0_call0_v1)
              : (⟨Cert.KernelIdeal.S1x1, .f32⟩ : BufTy).Contents (Elt F)))
          (W (Proc.devRef .tc Cert.KernelIdeal.main_call0_call0_v31)
              : (⟨Cert.KernelIdeal.S16x2046, .f32⟩ : BufTy).Contents (Elt F)))))) := by
  unfold noiseTail
  after_results_simp
  simp only [TRef.ofBuf_toBuf]
  rfl

set_option maxRecDepth 100000 in
/-- The floor of the draw: the least positive normal number. -/
theorem noiseHead_v1 (W : Valuation Cert.KernelIdeal.τ Cert.KernelIdeal.sig (Elt F)) :
    (after (Cert.KernelIdeal.Gen.hostOps0_1.take 261) W (Proc.devRef .tc Cert.KernelIdeal.main_call0_call0_v1)
        : (⟨Cert.KernelIdeal.S1x1, .f32⟩ : BufTy).Contents (Elt F))
      = broadcastInDim Cert.KernelIdeal.S1x1 ![] Cert.KernelIdeal.Gen.bcast_S_S1x1
          (constant Cert.KernelIdeal.S_ .f32 0x00800000#32) := by
  simp only [Cert.KernelIdeal.Gen.hostOps0_1, List.take_succ_cons, List.take_zero]
  after_results_simp
  simp only [TRef.ofBuf_toBuf]
  rfl

set_option maxRecDepth 100000 in
/-- The noise is `-log (-log u)` of a draw `u` raised to the least positive normal number. -/
theorem noise_form (VK : Valuation Cert.KernelIdeal.τ Cert.KernelIdeal.sig (Elt F)) :
    ∃ lo w : (⟨Cert.KernelIdeal.S16x2046, .f32⟩ : BufTy).Contents (Elt F),
    after Cert.KernelIdeal.Gen.hostOps0_1 VK (Proc.devRef .tc Cert.KernelIdeal.main_v23)
        = Host.negf (Host.log (Host.negf (Host.log (maximumf lo w))))
      ∧ ∀ i, ∃ j, lo i = (constant Cert.KernelIdeal.S_ .f32 0x00800000#32
          : (⟨Cert.KernelIdeal.S_, .f32⟩ : BufTy).Contents (Elt F)) j := by
  have hs : (Cert.KernelIdeal.Gen.hostOps0_1 : List (HloOp Cert.KernelIdeal.τ Cert.KernelIdeal.sig (Elt F)))
      = Cert.KernelIdeal.Gen.hostOps0_1.take 261 ++ noiseTail := rfl
  rw [hs, after_append]
  refine ⟨_, _, noiseTail_v23 _, fun i => ⟨fun a => a.elim0, ?_⟩⟩
  rw [noiseHead_v1]; rfl

end Cert.Ours

end
-- ==== Proof.NoiseBound.lean ====
/-
  The noise is never `-∞`: the draw is kept at or above a positive floor before the two logarithms.
-/
module

public import proofs.«01_k».proof.Proof.Noise
public import Idealize.ShloMosaic.Lib.Pointwise

@[expose] public section

noncomputable section

namespace Cert.Ours

open Idealize.ShloMosaic Idealize.SL.Sem Idealize.ShloMosaic.StableHlo

/-- The logarithm of a real number. -/
theorem log_coe (r : ℝ) : Ideal.log (r : EReal) = if r ≤ 0 then (⊥ : EReal) else (Real.log r : EReal) := rfl

/-- The logarithm of a positive number is not `-∞`. -/
theorem log_ne_bot {x : EReal} (h : 0 < x) : Ideal.log x ≠ ⊥ := by
  induction x using EReal.rec with
  | bot => simp at h
  | top => exact (top_ne_bot : (⊤ : EReal) ≠ ⊥)
  | coe r => rw [log_coe, if_neg (not_le.2 (EReal.coe_pos.1 h))]; exact EReal.coe_ne_bot _

/-- The logarithm of a number that is not `∞` is not `∞`. -/
theorem log_ne_top {x : EReal} (h : x ≠ ⊤) : Ideal.log x ≠ ⊤ := by
  induction x using EReal.rec with
  | bot => exact (bot_ne_top : (⊥ : EReal) ≠ ⊤)
  | top => simp at h
  | coe r =>
    rw [log_coe]
    split
    · exact bot_ne_top
    · exact EReal.coe_ne_top _

/-- The floor of the draw is positive. -/
theorem floor_pos : 0 < Ideal.ofBits .f32 0x00800000#32 := by
  simp [Ideal.ofBits, Ideal.ieee]
  rw [← EReal.coe_mul]
  exact EReal.coe_pos.2 (by positivity)

/-- The noise is never `-∞`. -/
theorem noise_ne_bot [Cert.ReferenceIdeal.Facts] (VK : Valuation Cert.KernelIdeal.τ Cert.KernelIdeal.sig (Elt Ideal)) (i : Cert.KernelIdeal.S16x2046.Idx) :
    (after Cert.KernelIdeal.Gen.hostOps0_1 VK (Proc.devRef .tc Cert.KernelIdeal.main_v23)
      : (⟨Cert.KernelIdeal.S16x2046, .f32⟩ : BufTy).Contents (Elt Ideal)) i ≠ (⊥ : EReal) := by
  obtain ⟨lo, w, h, hlo⟩ := noise_form (F := Ideal) VK
  obtain ⟨j, hj⟩ := hlo i
  rw [h]
  change -(Ideal.log (-(Ideal.log (max (lo i) (w i))))) ≠ (⊥ : EReal)
  have hf : (0 : EReal) < lo i := by rw [hj]; exact floor_pos
  have h1 : Ideal.log (max (lo i) (w i)) ≠ ⊥ := log_ne_bot (lt_of_lt_of_le hf (le_max_left _ _))
  have h2 : -(Ideal.log (max (lo i) (w i))) ≠ ⊤ := fun e => h1 (EReal.neg_eq_top_iff.1 e)
  exact fun e => log_ne_top h2 (EReal.neg_eq_bot_iff.1 e)

end Cert.Ours
-- ==== Proof.Round.lean ====
/-
  One round of the kernel's selection, and the fourteen rounds as its repetition.
-/
module

public import proofs.«01_k».proof.Proof.Pick
public import Idealize.ShloMosaic.Lib.Pointwise
public import Idealize.ShloMosaic.Lib.SortNet.Extract

@[expose] public section

noncomputable section

namespace Cert.KernelIdeal.Ours

open Idealize.ShloMosaic
open Cert.KernelIdeal Cert.KernelIdeal.Gen

/-- The scores with the winners of `k` rounds struck out. -/
def struck (Y : Vec Ideal S16x2048 .f32) : ℕ → FVec Ideal S16x2048 .f32
  | 0 => Y
  | k + 1 => k0_pay4 (F := Ideal) (struck Y k)

/-- The winner of the round after `k` rounds, as a column. -/
def winner (Y : Vec Ideal S16x2048 .f32) (k : ℕ) : IVec S16x1 32 := k0_pay31 (k0_pay3 (F := Ideal) (struck Y k))

variable (Y : Vec Ideal S16x2048 .f32)

theorem struck_succ (k : ℕ) : struck Y (k + 1) = k0_pay4 (F := Ideal) (struck Y k) := rfl

theorem pay4_eq : k0_pay4 Y = struck Y 1 := rfl
theorem pay6_eq : k0_pay6 Y = struck Y 2 := rfl
theorem pay8_eq : k0_pay8 Y = struck Y 3 := by
  rw [struck_succ, ← pay6_eq]; rfl
theorem pay11_eq : k0_pay11 cols (k0_pay8 Y) (k0_pay9 Y) = struck Y 4 := by
  rw [struck_succ, ← pay8_eq]; rfl
theorem pay13_eq : k0_pay13 cols (k0_pay8 Y) (k0_pay9 Y) = struck Y 5 := by
  rw [struck_succ, ← pay11_eq]; rfl
theorem pay15_eq : k0_pay15 cols (k0_pay8 Y) (k0_pay9 Y) = struck Y 6 := by
  rw [struck_succ, ← pay13_eq]; rfl
theorem after4_eq : after4 Y = struck Y 7 := by
  rw [struck_succ, ← pay15_eq]; rfl
theorem pay20_eq : k0_pay20 cols (after4 Y) (after4' Y) = struck Y 8 := by
  rw [struck_succ, ← after4_eq]; rfl
theorem pay22_eq : k0_pay22 cols (after4 Y) (after4' Y) = struck Y 9 := by
  rw [struck_succ, ← pay20_eq]; rfl
theorem pay24_eq : k0_pay24 cols (after4 Y) (after4' Y) = struck Y 10 := by
  rw [struck_succ, ← pay22_eq]; rfl
theorem after11_eq : after11 Y = struck Y 11 := by
  rw [struck_succ, ← pay24_eq]; rfl
theorem pay28_eq : k0_pay28 cols (after11 Y) = struck Y 12 := by
  rw [struck_succ, ← after11_eq]; rfl

theorem stack_first : stack Y 0 = k0_pay30 := rfl
theorem stack_1 : stack Y 1 = winner Y 0 := rfl
theorem stack_2 : stack Y 2 = winner Y 1 := by rw [winner, ← pay4_eq]; rfl
theorem stack_3 : stack Y 3 = winner Y 2 := by rw [winner, ← pay6_eq]; rfl
theorem stack_4 : stack Y 4 = winner Y 3 := by rw [winner, ← pay8_eq]; rfl
theorem stack_5 : stack Y 5 = winner Y 4 := by rw [winner, ← pay11_eq]; rfl
theorem stack_6 : stack Y 6 = winner Y 5 := by rw [winner, ← pay13_eq]; rfl
theorem stack_7 : stack Y 7 = winner Y 6 := by rw [winner, ← pay15_eq]; rfl
theorem stack_8 : stack Y 8 = winner Y 7 := by rw [winner, ← after4_eq]; rfl
theorem stack_9 : stack Y 9 = winner Y 8 := by rw [winner, ← pay20_eq]; rfl
theorem stack_10 : stack Y 10 = winner Y 9 := by rw [winner, ← pay22_eq]; rfl
theorem stack_11 : stack Y 11 = winner Y 10 := by rw [winner, ← pay24_eq]; rfl
theorem stack_12 : stack Y 12 = winner Y 11 := by rw [winner, ← after11_eq]; rfl
theorem stack_13 : stack Y 13 = winner Y 12 := by rw [winner, ← pay28_eq]; rfl
theorem stack_14 : stack Y 14 = winner Y 13 := by rw [winner, struck_succ, ← pay28_eq]; rfl
theorem stack_last : stack Y 15 = k0_pay45 := rfl

/-- The columns between the first and the last are the winners of the rounds, in order. -/
theorem stack_mid (k : Fin 14) : stack Y ⟨k.val + 1, by omega⟩ = winner Y k.val := by
  match k with
  | ⟨0, _⟩ => exact stack_1 Y
  | ⟨1, _⟩ => exact stack_2 Y
  | ⟨2, _⟩ => exact stack_3 Y
  | ⟨3, _⟩ => exact stack_4 Y
  | ⟨4, _⟩ => exact stack_5 Y
  | ⟨5, _⟩ => exact stack_6 Y
  | ⟨6, _⟩ => exact stack_7 Y
  | ⟨7, _⟩ => exact stack_8 Y
  | ⟨8, _⟩ => exact stack_9 Y
  | ⟨9, _⟩ => exact stack_10 Y
  | ⟨10, _⟩ => exact stack_11 Y
  | ⟨11, _⟩ => exact stack_12 Y
  | ⟨12, _⟩ => exact stack_13 Y
  | ⟨13, _⟩ => exact stack_14 Y
  | ⟨k + 14, h⟩ => exact absurd h (by omega)

/-- The fold of the signed minimum is the word that is met and below all. -/
theorem fold_minsi_eq {n : ℕ} (g : Fin n → BitVec 32) (init v : BitVec 32) (hi : v.toInt ≤ init.toInt)
    (hle : ∀ i, v.toInt ≤ (g i).toInt) (p : Fin n) (hp : g p = v) :
    (Finset.univ : Finset (Fin n)).fold IntOp.minsi init g = v := by
  have hm : ∀ x y : BitVec 32, (IntOp.minsi x y).toInt = min x.toInt y.toInt := by
    intro x y
    unfold IntOp.minsi
    by_cases h : x.slt y
    · rw [if_pos h, min_eq_left]; exact le_of_lt (by simpa [BitVec.slt] using h)
    · rw [if_neg h, min_eq_right]; simpa [BitVec.slt] using h
  have key : ∀ S : Finset (Fin n), v.toInt ≤ (S.fold IntOp.minsi init g).toInt ∧
      ∀ i ∈ S, (S.fold IntOp.minsi init g).toInt ≤ (g i).toInt := by
    intro S
    refine Finset.induction_on S ⟨by rw [Finset.fold_empty]; exact hi, fun i h => absurd h (Finset.notMem_empty i)⟩ ?_
    intro a S ha ih
    rw [Finset.fold_insert ha, hm]
    refine ⟨le_min (hle a) ih.1, fun i h => ?_⟩
    rcases Finset.mem_insert.mp h with rfl | h
    · exact min_le_left _ _
    · exact (min_le_right _ _).trans (ih.2 i h)
  refine BitVec.eq_of_toInt_eq (le_antisymm ?_ (key _).1)
  have := (key Finset.univ).2 p (Finset.mem_univ p)
  rwa [hp] at this

/-- The fold of the maximum from below everything is the value that is met and above all. -/
theorem fold_max_eq {n : ℕ} (f : Fin n → EReal) (p : Fin n) (hp : ∀ q, f q ≤ f p) :
    (Finset.univ : Finset (Fin n)).fold max ⊥ f = f p := by
  refine le_antisymm (Finset.fold_max_le _ |>.mpr ⟨bot_le, fun q _ => hp q⟩) ?_
  exact (Finset.le_fold_max _).mpr (Or.inr ⟨p, Finset.mem_univ p, le_rfl⟩)

theorem negInf : Ideal.ofBits .f32 0xFF800000#32 = ⊥ := by
  simp [Ideal.ofBits, Ideal.ieee]

/-- The value of a small word. -/
theorem toInt_small (n : ℕ) (h : n < 4096) : (BitVec.ofNat 32 n).toInt = (n : ℤ) := by
  rw [BitVec.toInt_eq_toNat_of_lt (by rw [BitVec.toNat_ofNat]; omega), BitVec.toNat_ofNat, Nat.mod_eq_of_lt (by omega)]

/-- A round picks the first of the places that hold the row's maximum. -/
theorem pay3_at (A : Vec Ideal S16x2048 .f32) (b : Fin 16) (p : Fin 2048) (hmax : ∀ q, A (ix2 b q) ≤ A (ix2 b p))
    (hfirst : ∀ q, q < p → A (ix2 b q) ≠ A (ix2 b p)) : k0_pay3 A (ix1 b) = BitVec.ofNat 32 p.val := by
  pointwise [k0_pay3]
  rw [negInf, fold_max_eq (fun x => A (ix2 b x)) p hmax]
  refine fold_minsi_eq _ _ _ ?_ (fun q => ?_) p (if_pos rfl)
  · rw [toInt_small _ (by omega)]
    have : (2147483647#32 : BitVec 32).toInt = 2147483647 := by decide
    omega
  · by_cases h : A (ix2 b q) = A (ix2 b p)
    · rw [if_pos h, toInt_small _ (by omega), toInt_small _ (by omega)]
      have : ¬ q < p := fun hq => hfirst q hq h
      have : p.val ≤ q.val := by omega
      exact_mod_cast this
    · rw [if_neg h, toInt_small _ (by omega), toInt_small 2048 (by omega)]
      have := p.isLt
      exact_mod_cast this.le

/-- A round strikes out its winner and keeps the rest. -/
theorem pay4_at (A : Vec Ideal S16x2048 .f32) (b : Fin 16) (p : Fin 2048) (hp : k0_pay3 A (ix1 b) = BitVec.ofNat 32 p.val)
    (q : Fin 2048) : k0_pay4 A (ix2 b q) = if q = p then ⊥ else A (ix2 b q) := by
  pointwise [k0_pay4]
  rw [hp, negInf]
  have hiff : BitVec.ofNat 32 q.val = BitVec.ofNat 32 p.val ↔ q = p := by
    refine ⟨fun h => ?_, fun h => by rw [h]⟩
    have := congrArg BitVec.toInt h
    rw [toInt_small _ (by omega), toInt_small _ (by omega)] at this
    exact Fin.ext (by exact_mod_cast this)
  by_cases h : q = p
  · simp [Scalar.select, IntOp.cmpi, h]
  · have hb : (BitVec.ofNat 32 q.val == BitVec.ofNat 32 p.val) = false := beq_eq_false_iff_ne.mpr fun e => h (hiff.mp e)
    simp [Scalar.select, IntOp.cmpi, h, hb]

end Cert.KernelIdeal.Ours
-- ==== Proof.Rank.lean ====
/-
  The kernel's last step: the sixteen words of a row put in order by their ranks.
-/
module

public import proofs.«01_k».proof.Proof.Round
public import Idealize.ShloMosaic.Lib.SortFacts
public import Idealize.ShloMosaic.Lib.WordSum
public import Mathlib.Data.BitVec

@[expose] public section

noncomputable section

namespace Cert.KernelIdeal.Ours

open Idealize.ShloMosaic
open Cert.KernelIdeal Cert.KernelIdeal.Gen

set_option maxRecDepth 16384 in
/-- An entry's rank counts the entries of its row below it. -/
theorem ranks_at (s : Fin 16 → IVec S16x1 32) (b i : Fin 16) :
    ranks s (ix2 b i) = ∑ j : Fin 16, (IntOp.cmpi .slt (joined s (ix2 b j)) (joined s (ix2 b i))).setWidth 32 := by
  have e : k0_pay46 (s 0) (s 1) (s 2) (s 3) (s 4) (s 5) (s 6) (s 7) (s 8) (s 9) (s 10) (s 11) (s 12) (s 13) (s 14) (s 15) = joined s := rfl
  pointwise [ranks, k0_pay49, k0_pay48, k0_pay47]
  simp only [e]
  simp only [Fin.sum_univ_castSucc, Fin.sum_univ_zero]
  rfl

set_option maxRecDepth 16384 in
/-- The output's place `r` gathers the entries of rank `r`. -/
theorem sorted_at (s : Fin 16 → IVec S16x1 32) (b r : Fin 16) :
    sorted s (ix2 b r) = (Finset.univ : Finset (Fin 16)).fold IntOp.addi 0#32
      (fun x => Scalar.select (IntOp.cmpi .eq (ranks s (ix2 b x)) (BitVec.ofNat 32 r.val)) (joined s (ix2 b x)) 0#32) := by
  have e : first s = cmpi .eq (ranks s) (broadcast S16x16 0#32) := rfl
  pointwise [sorted, k0_pay2]
  fin_vals r with hr
  all_goals simp only [hr, Nat.reduceSub, Nat.reduceLT, ↓reduceDIte]
  all_goals pointwise [e, k0_pay52, k0_pay51, k0_pay53, k0_pay54, k0_pay55, k0_pay56, k0_pay57, k0_pay58, k0_pay59, k0_pay60, k0_pay61,
    k0_pay62, k0_pay63, k0_pay64, k0_pay65, k0_pay66]

/-- A sum of words with one entry that may differ from zero. -/
theorem fold_addi_single (f : Fin 16 → BitVec 32) (p : Fin 16) (h : ∀ x, x ≠ p → f x = 0#32) :
    (Finset.univ : Finset (Fin 16)).fold IntOp.addi 0#32 f = f p := by
  have e : (Finset.univ : Finset (Fin 16)).fold IntOp.addi 0#32 f = ∑ x, f x := (Finset.sum_eq_fold Finset.univ f).symm
  rw [e]
  exact Finset.sum_eq_single p (fun x _ hx => h x hx) (fun hp => absurd (Finset.mem_univ p) hp)

/-- The order in which a stable sort takes the words of a row. -/
def order (M : Fin 16 → BitVec 32) : Fin 16 → Fin 16 := sortedFrom (fun k k' => IntOp.cmpi .slt (M k) (M k') == 1#1)

theorem slt_iff (x y : BitVec 32) : IntOp.cmpi .slt x y = 1#1 ↔ x.toInt < y.toInt := by
  by_cases h : x.toInt < y.toInt <;> simp [IntOp.cmpi, BitVec.slt, h]

theorem order_lt (M : Fin 16 → BitVec 32) (hM : Function.Injective M) (i j : Fin 16) (hij : i < j) :
    (M (order M i)).toInt < (M (order M j)).toInt := by
  have h := sortedFrom_noInversion (fun k k' => IntOp.cmpi .slt (M k) (M k') == 1#1)
    (fun k k' => IntOp.cmpi .slt (M k) (M k') == 1#1) ?_ (fun _ _ h => h) ?_ i j hij
  · have h' : ¬ (M (order M j)).toInt < (M (order M i)).toInt := by
      intro hlt
      rw [← slt_iff] at hlt
      have : (IntOp.cmpi .slt (M (order M j)) (M (order M i)) == 1#1) = false := h
      rw [hlt] at this
      exact absurd this (by decide)
    refine lt_of_le_of_ne (not_lt.mp h') fun e => ?_
    have := sortedFrom_injective _ (hM (BitVec.eq_of_toInt_eq e))
    exact absurd this hij.ne
  · intro a b hab
    rw [beq_iff_eq, slt_iff] at hab
    rw [beq_eq_false_iff_ne, ne_eq, slt_iff]
    omega
  · intro a b c hab hbc
    rw [beq_eq_false_iff_ne, ne_eq, slt_iff] at *
    omega

theorem sum_below : ∀ r : Fin 16, (∑ j : Fin 16, if j < r then 1#32 else 0#32) = BitVec.ofNat 32 r.val := by decide

/-- The entry that comes at place `r` has rank `r`. -/
theorem rank_order (s : Fin 16 → IVec S16x1 32) (b r : Fin 16) (hM : Function.Injective fun i => joined s (ix2 b i)) :
    ranks s (ix2 b (order (fun i => joined s (ix2 b i)) r)) = BitVec.ofNat 32 r.val := by
  rw [ranks_at]
  have hbij : Function.Bijective (order fun i => joined s (ix2 b i)) := ⟨sortedFrom_injective _, sortedFrom_surjective _⟩
  rw [← hbij.sum_comp]
  have hterm : ∀ j : Fin 16, (IntOp.cmpi .slt (joined s (ix2 b (order (fun i => joined s (ix2 b i)) j)))
      (joined s (ix2 b (order (fun i => joined s (ix2 b i)) r)))).setWidth 32 = if j < r then 1#32 else 0#32 := by
    intro j
    by_cases h : j < r
    · rw [if_pos h, (slt_iff _ _).mpr (order_lt _ hM j r h)]; rfl
    · rw [if_neg h]
      have hn : IntOp.cmpi .slt (joined s (ix2 b (order (fun i => joined s (ix2 b i)) j)))
          (joined s (ix2 b (order (fun i => joined s (ix2 b i)) r))) ≠ 1#1 := by
        rw [ne_eq, slt_iff]
        rcases lt_or_eq_of_le (not_lt.mp h) with h | h
        · exact not_lt.mpr (order_lt _ hM r j h).le
        · rw [h]; exact lt_irrefl _
      rcases (by decide : ∀ v : BitVec 1, v = 1#1 ∨ v = 0#1) (IntOp.cmpi .slt
        (joined s (ix2 b (order (fun i => joined s (ix2 b i)) j))) (joined s (ix2 b (order (fun i => joined s (ix2 b i)) r)))) with h1 | h0
      · exact absurd h1 hn
      · rw [h0]; rfl
  rw [Finset.sum_congr rfl fun j _ => hterm j]
  exact sum_below r

/-- Where the sixteen words of a row are distinct, the kernel's last step is the stable sort. -/
theorem sorted_eq (s : Fin 16 → IVec S16x1 32) (b r : Fin 16) (hM : Function.Injective fun i => joined s (ix2 b i)) :
    sorted s (ix2 b r) = joined s (ix2 b (order (fun i => joined s (ix2 b i)) r)) := by
  rw [sorted_at, fold_addi_single _ (order (fun i => joined s (ix2 b i)) r)]
  · rw [rank_order s b r hM]
    simp [Scalar.select, IntOp.cmpi]
  · intro x hx
    obtain ⟨j, rfl⟩ : ∃ j, order (fun i => joined s (ix2 b i)) j = x := sortedFrom_surjective _ x
    rw [rank_order s b j hM]
    have hne : BitVec.ofNat 32 j.val ≠ BitVec.ofNat 32 r.val := by
      intro e
      have := congrArg BitVec.toInt e
      rw [toInt_small _ (by omega), toInt_small _ (by omega)] at this
      exact hx (congrArg _ (Fin.ext (by exact_mod_cast this)))
    have hb : (BitVec.ofNat 32 j.val == BitVec.ofNat 32 r.val) = false := beq_eq_false_iff_ne.mpr hne
    simp [Scalar.select, IntOp.cmpi, hb]

end Cert.KernelIdeal.Ours
-- ==== Proof.Order.lean ====
/-
  A stable descending sort of extended reals takes equal ones in the order of their places.
-/
module

public import Idealize.ShloMosaic.Lib.SortFacts
public import Idealize.ShloMosaic.PureOps.Ideal

@[expose] public section

namespace Cert.Ours

open Idealize.ShloMosaic

/-- On an ascending list the sort compares a later place with an earlier one only, in this order. -/
theorem stableSort_ascending {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_ascending R R' h l hl.2]
    exact insertBefore_congr R R' a _ fun b hb => h a b (hl.1 b ((perm_stableSort R' l).mem_iff.mp hb))

theorem sortedFrom_ascending {n : ℕ} (R R' : Fin n → Fin n → Bool) (h : ∀ a b, a < b → R b a = R' b a) :
    sortedFrom R = sortedFrom R' := by
  have e : sortPositions n R = sortPositions n R' := stableSort_ascending R R' h _ (List.pairwise_lt_finRange n)
  funext k
  unfold sortedFrom
  rw [List.get_of_eq e]
  rfl

/-- The places in the order of a stable descending sort. -/
theorem sortedFrom_desc {n : ℕ} (y : Fin n → EReal) (R : Fin n → Fin n → Bool) (hR : ∀ a b, R a b = true ↔ y b < y a)
    (i j : Fin n) (hij : i < j) :
    y (sortedFrom R j) < y (sortedFrom R i) ∨ (y (sortedFrom R j) = y (sortedFrom R i) ∧ sortedFrom R i < sortedFrom R j) := by
  classical
  let B : Fin n → Fin n → Bool := fun a b => decide (y b < y a ∨ (y b = y a ∧ a < b))
  have hB : ∀ a b, B a b = true ↔ (y b < y a ∨ (y b = y a ∧ a < b)) := fun a b => decide_eq_true_iff
  have hBn : ∀ a b, B a b = false ↔ ¬ (y b < y a ∨ (y b = y a ∧ a < b)) := fun a b => decide_eq_false_iff_not
  have e : sortedFrom R = sortedFrom B := sortedFrom_ascending R B fun a b hab => by
    rw [Bool.eq_iff_iff, hR, hB]
    exact ⟨Or.inl, fun h => h.elim id fun h => absurd h.2 (not_lt.mpr hab.le)⟩
  rw [e]
  have h := sortedFrom_noInversion B B ?_ (fun _ _ h => h) ?_ i j hij
  · rw [hBn, not_or, not_and, not_lt, not_lt] at h
    rcases lt_or_eq_of_le h.1 with h1 | h1
    · exact Or.inl h1
    · refine Or.inr ⟨h1, lt_of_le_of_ne (h.2 h1.symm) fun e => ?_⟩
      exact absurd (sortedFrom_injective B e) hij.ne
  · intro a b hab
    rw [hB] at hab
    rw [hBn]
    rintro (h1 | ⟨h1, h2⟩) <;> rcases hab with h3 | ⟨h3, h4⟩
    · exact absurd h1 (not_lt.mpr h3.le)
    · exact absurd h1 (by rw [h3]; exact lt_irrefl _)
    · exact absurd h3 (by rw [h1]; exact lt_irrefl _)
    · exact absurd h2 (not_lt.mpr h4.le)
  · intro a b c hab hbc
    rw [hBn, not_or, not_and, not_lt, not_lt] at *
    refine ⟨hab.1.trans hbc.1, fun e => ?_⟩
    have e1 : y b = y a := le_antisymm (by rw [← e]; exact hbc.1) hab.1
    have e2 : y c = y b := by rw [e, e1]
    exact (hbc.2 e2).trans (hab.2 e1)

end Cert.Ours
-- ==== Proof.TopK.lean ====
/-
  The reference's selection, read at an index.
-/
module

public import proofs.«01_k».proof.Proof.RefPieces
public import proofs.«01_k».proof.Proof.Order
public import Idealize.ShloMosaic.Lib.Pointwise

@[expose] public section

noncomputable section

namespace Cert.ReferenceIdeal.Ours

open Idealize.ShloMosaic
open Cert.ReferenceIdeal
open Facts₀ Facts

variable [Facts]

omit [Facts] in
theorem along_second {n0 n1 : ℕ} (b : Fin n0) (k k' : Fin n1) : (ix2 b k).along (1 : Fin 2) k' = ix2 b k' := by
  funext a
  match a with
  | 0 => rfl
  | 1 => rfl

omit [Facts] in
theorem div_one' (x : EReal) : Ideal.div x 1 = x := by
  simp [Ideal.div]

omit [Facts] in
theorem gt_iff (x y : EReal) : (FloatOps.cmpfTotal (F := Ideal) (φ := .f32) CmpDirection.gt x y == 1#1) = true ↔ y < x := by
  by_cases h : y < x <;> simp [FloatOps.cmpfTotal, Ideal.cmpTotal, CmpDirection.ordered, Ideal.cmp, h]

/-- The inner frames of a row in the order of the reference's top-k. -/
def places (y : FVec Ideal S16x2046 .f32) (b : Fin 16) : Fin 2046 → Fin 2046 :=
  sortedFrom (fun k k' => FloatOps.cmpfTotal (F := Ideal) (φ := .f32) CmpDirection.gt (y (ix2 b k)) (y (ix2 b k')) == 1#1)

theorem topR_at (y : FVec Ideal S16x2046 .f32) (b : Fin 16) (k : Fin 14) :
    topR (F := Ideal) y (ix2 b k) = BitVec.ofNat 32 (places y b ⟨k.val, by omega⟩).val := by
  pointwise [topR, Host.topK, Host.sort2]
  simp only [along_second, div_one']
  rfl

/-- The words of a row before the reference sorts them. -/
def words (y : FVec Ideal S16x2046 .f32) (b i : Fin 16) : BitVec 32 :=
  if i.val < 1 then 0#32
  else if h : i.val - 1 < 14 then BitVec.ofNat 32 (places y b ⟨i.val - 1, by omega⟩).val + 1#32
  else 2047#32

theorem pickR_at (y : FVec Ideal S16x2046 .f32) (b k : Fin 16) :
    pickR (F := Ideal) y (ix2 b k)
      = words y b (sortedFrom (fun i i' => IntOp.cmpi .slt (words y b i) (words y b i') == 1#1) k) := by
  have hw : ∀ i : Fin 16, rowR (F := Ideal) (broadcastInDim S16x1 ![] bcast_S_S16x1 (constantI S_ 32 0#32))
      (addi (topR (F := Ideal) y) (broadcastInDim S16x14 ![] bcast_S_S16x14 (constantI S_ 32 1#32)))
      (broadcastInDim S16x1 ![] bcast_S_S16x1 (constantI S_ 32 2047#32)) (ix2 b i) = words y b i := by
    intro i
    unfold words
    pointwise [rowR]
    by_cases h0 : i.val < 1
    · simp only [h0, ↓reduceDIte, ↓reduceIte]
    · by_cases h1 : i.val - 1 < 14
      · simp only [h0, h1, ↓reduceDIte, ↓reduceIte]
        rw [topR_at]
        rfl
      · simp only [h0, h1, ↓reduceDIte, ↓reduceIte]
  pointwise [pickR, sortR, Host.sort]
  simp only [along_second, hw]
  rfl

omit [Facts] in
/-- The places come with greater scores first, equal scores in the order of the frames. -/
theorem places_desc (y : FVec Ideal S16x2046 .f32) (b : Fin 16) (i j : Fin 2046) (hij : i < j) :
    y (ix2 b (places y b j)) < y (ix2 b (places y b i))
      ∨ (y (ix2 b (places y b j)) = y (ix2 b (places y b i)) ∧ places y b i < places y b j) :=
  Cert.Ours.sortedFrom_desc (fun k => y (ix2 b k)) _ (fun _ _ => gt_iff _ _) i j hij

omit [Facts] in
theorem places_injective (y : FVec Ideal S16x2046 .f32) (b : Fin 16) : Function.Injective (places y b) := sortedFrom_injective _
omit [Facts] in
theorem places_surjective (y : FVec Ideal S16x2046 .f32) (b : Fin 16) : Function.Surjective (places y b) := sortedFrom_surjective _

end Cert.ReferenceIdeal.Ours
-- ==== Proof.Select.lean ====
/-
  The kernel's selection is the reference's, for scores that agree and are not minus infinity.
-/
module

public import proofs.«01_k».proof.Proof.Rank
public import proofs.«01_k».proof.Proof.TopK

@[expose] public section

noncomputable section

namespace Cert.Ours

open Idealize.ShloMosaic
open Cert.KernelIdeal.Ours (struck winner joined stack order)
open Cert.ReferenceIdeal.Ours (places words)

/-- What the kernel's selection reads, against what the reference's does: the inner scores agree and are above minus infinity,
    which the two outer columns are. -/
structure Agree (Y : FVec Ideal Cert.KernelIdeal.S16x2048 .f32) (y : FVec Ideal Cert.ReferenceIdeal.S16x2046 .f32) : Prop where
  first : ∀ b : Fin 16, Y (ix2 b (0 : Fin 2048)) = ⊥
  last : ∀ b : Fin 16, Y (ix2 b (2047 : Fin 2048)) = ⊥
  inner : ∀ (b : Fin 16) (n : Fin 2046), Y (ix2 b (⟨n.val + 1, by omega⟩ : Fin 2048)) = y (ix2 b n)
  above : ∀ (b : Fin 16) (n : Fin 2046), y (ix2 b n) ≠ ⊥

variable {Y : FVec Ideal Cert.KernelIdeal.S16x2048 .f32} {y : FVec Ideal Cert.ReferenceIdeal.S16x2046 .f32}

/-- The column of the `k`-th place. -/
def col (y : FVec Ideal Cert.ReferenceIdeal.S16x2046 .f32) (b : Fin 16) (k : Fin 2046) : Fin 2048 := ⟨(places y b k).val + 1, by omega⟩

theorem col_injective (b : Fin 16) {k k' : Fin 2046} (h : col y b k = col y b k') : k = k' := by
  refine Cert.ReferenceIdeal.Ours.places_injective y b (Fin.ext ?_)
  have := congrArg Fin.val h
  simp only [col] at this
  omega

/-- Every column is an outer one or that of a place. -/
theorem Agree.column (b : Fin 16) (h : Agree Y y) (q : Fin 2048) :
    Y (ix2 b q) = ⊥ ∧ (∀ k, q ≠ col y b k) ∨ ∃ k, q = col y b k ∧ Y (ix2 b q) = y (ix2 b (places y b k)) := by
  by_cases h0 : q = 0
  · subst h0
    exact Or.inl ⟨h.first b, fun k e => absurd (congrArg Fin.val e) (by simp [col])⟩
  · by_cases hl : q = 2047
    · subst hl
      exact Or.inl ⟨h.last b, fun k e => by
        have := congrArg Fin.val e
        have h1 := (places y b k).isLt
        have h2 : ((2047 : Fin 2048) : ℕ) = 2047 := rfl
        simp only [col] at this
        omega⟩
    · have hq0 : q.val ≠ 0 := fun e => h0 (Fin.ext e)
      have hql : q.val ≠ 2047 := fun e => hl (Fin.ext e)
      have hq := q.isLt
      obtain ⟨k, hk⟩ := Cert.ReferenceIdeal.Ours.places_surjective y b ⟨q.val - 1, by omega⟩
      have e : q = col y b k := Fin.ext (by simp only [col, hk]; omega)
      refine Or.inr ⟨k, e, ?_⟩
      rw [← h.inner b (places y b k)]
      exact congrArg (fun z => Y (ix2 b z)) e

/-- After `k` rounds the first `k` places are struck out; the next round picks the next place. -/
theorem Agree.rounds (h : Agree Y y) (b : Fin 16) : ∀ k : ℕ, (hk : k < 2046) →
    (∀ q, struck Y k (ix2 b q) = if ∃ a : Fin 2046, a.val < k ∧ q = col y b a then ⊥ else Y (ix2 b q))
      ∧ Cert.KernelIdeal.Gen.k0_pay3 (F := Ideal) (struck Y k) (ix1 b) = BitVec.ofNat 32 (col y b ⟨k, hk⟩).val := by
  classical
  intro k
  induction k with
  | zero =>
    intro hk
    have h1 : ∀ q, struck Y 0 (ix2 b q) = if ∃ a : Fin 2046, a.val < 0 ∧ q = col y b a then ⊥ else Y (ix2 b q) := by
      intro q
      rw [if_neg (by rintro ⟨a, ha, _⟩; omega)]
      rfl
    exact ⟨h1, pick h b 0 hk h1⟩
  | succ k ih =>
    intro hk
    obtain ⟨h1, h2⟩ := ih (by omega)
    have h3 : ∀ q, struck Y (k + 1) (ix2 b q) = if ∃ a : Fin 2046, a.val < k + 1 ∧ q = col y b a then ⊥ else Y (ix2 b q) := by
      intro q
      rw [Cert.KernelIdeal.Ours.struck_succ, Cert.KernelIdeal.Ours.pay4_at _ b _ h2 q, h1 q]
      by_cases hq : q = col y b ⟨k, by omega⟩
      · rw [if_pos hq, if_pos ⟨⟨k, by omega⟩, Nat.lt_succ_self k, hq⟩]
      · rw [if_neg hq]
        by_cases hp : ∃ a : Fin 2046, a.val < k ∧ q = col y b a
        · obtain ⟨a, ha, e⟩ := hp
          rw [if_pos ⟨a, ha, e⟩, if_pos ⟨a, by omega, e⟩]
        · rw [if_neg hp, if_neg]
          rintro ⟨a, ha, e⟩
          rcases Nat.lt_succ_iff_lt_or_eq.mp ha with ha | ha
          · exact hp ⟨a, ha, e⟩
          · exact hq (e.trans (congrArg (col y b) (Fin.ext ha)))
    exact ⟨h3, pick h b (k + 1) hk h3⟩
where
  pick (h : Agree Y y) (b : Fin 16) (k : ℕ) (hk : k < 2046)
      (h1 : ∀ q, struck Y k (ix2 b q) = if ∃ a : Fin 2046, a.val < k ∧ q = col y b a then ⊥ else Y (ix2 b q)) :
      Cert.KernelIdeal.Gen.k0_pay3 (F := Ideal) (struck Y k) (ix1 b) = BitVec.ofNat 32 (col y b ⟨k, hk⟩).val := by
    have hplace : ∀ a : Fin 2046, k ≤ a.val → struck Y k (ix2 b (col y b a)) = y (ix2 b (places y b a)) := by
      intro a ha
      rw [h1, if_neg (by
        rintro ⟨a', ha', e⟩
        have := col_injective b e
        subst this
        omega)]
      exact h.inner b (places y b a)
    have hk' := hplace ⟨k, hk⟩ le_rfl
    refine Cert.KernelIdeal.Ours.pay3_at _ b _ (fun q => ?_) (fun q hq => ?_)
    · rw [hk']
      rcases h.column b q with ⟨e, _⟩ | ⟨a, e, _⟩
      · rw [h1, e, ite_self]; exact bot_le
      · by_cases ha : a.val < k
        · rw [h1, if_pos ⟨a, ha, e⟩]; exact bot_le
        · rw [e, hplace a (not_lt.mp ha)]
          rcases lt_or_eq_of_le (not_lt.mp ha) with hlt | heq
          · rcases Cert.ReferenceIdeal.Ours.places_desc y b ⟨k, hk⟩ a hlt with h' | ⟨h', _⟩
            · exact h'.le
            · exact h'.le
          · have : a = ⟨k, hk⟩ := Fin.ext heq.symm
            rw [this]
    · rw [hk']
      intro hq'
      rcases h.column b q with ⟨e, _⟩ | ⟨a, e, _⟩
      · rw [h1, e, ite_self] at hq'
        exact h.above b _ hq'.symm
      · by_cases ha : a.val < k
        · rw [h1, if_pos ⟨a, ha, e⟩] at hq'
          exact h.above b _ hq'.symm
        · rw [e, hplace a (not_lt.mp ha)] at hq'
          rcases lt_or_eq_of_le (not_lt.mp ha) with hlt | heq
          · rcases Cert.ReferenceIdeal.Ours.places_desc y b ⟨k, hk⟩ a hlt with h' | ⟨_, h'⟩
            · exact absurd hq' h'.ne
            · rw [e] at hq
              have h2 : (places y b a).val + 1 < (places y b ⟨k, hk⟩).val + 1 := hq
              have h3 : (places y b ⟨k, hk⟩).val < (places y b a).val := h'
              omega
          · have : a = ⟨k, hk⟩ := Fin.ext heq.symm
            rw [e, this] at hq
            exact lt_irrefl _ hq

/-- The columns side by side, at an entry. -/
theorem joined_at (s : Fin 16 → IVec Cert.KernelIdeal.S16x1 32) (b i : Fin 16) :
    joined s (ix2 b i) = s i (ix2 b (0 : Fin 1)) := by
  have e : ∀ h, joined s = concatenate Cert.KernelIdeal.S16x16 1 (List.ofFn fun n : Fin 16 => (⟨Cert.KernelIdeal.S16x1, s n⟩ : (s : Shape) × (s.Idx → BitVec 32))) h := fun h => rfl
  have h' : Shape.Concatenates ((List.ofFn fun n : Fin 16 => (⟨Cert.KernelIdeal.S16x1, s n⟩ : (s : Shape) × (s.Idx → BitVec 32))).map (·.1)) Cert.KernelIdeal.S16x16 1 :=
    Cert.KernelIdeal.Gen.concatenates_S16x1_S16x1_S16x1_S16x1_S16x1_S16x1_S16x1_S16x1_S16x1_S16x1_S16x1_S16x1_S16x1_S16x1_S16x1_S16x1_S16x16_d1
  rw [e h', concatenate_ofFn_unit_apply' 1 s h' rfl (ix2 b i)]
  refine congrArg (s i) ?_
  funext a
  match a with
  | 0 => rfl
  | 1 => rfl

/-- The kernel's sixteen words of a row are the reference's. -/
theorem Agree.words_eq (h : Agree Y y) (b i : Fin 16) : joined (stack (F := Ideal) Y) (ix2 b i) = words y b i := by
  have hmid : ∀ k : Fin 14, winner Y k.val (ix2 b (0 : Fin 1)) = BitVec.ofNat 32 (places y b ⟨k.val, by omega⟩).val + 1#32 := by
    intro k
    have h2 := (h.rounds b k.val (by omega)).2
    unfold winner
    pointwise [Cert.KernelIdeal.Gen.k0_pay31]
    rw [h2]
    simp only [col, BitVec.ofNat_add]
  have hst : ∀ j : Fin 16, stack (F := Ideal) Y j (ix2 b (0 : Fin 1)) = words y b j := by
    intro j
    unfold words
    by_cases h0 : j.val < 1
    · have : j = 0 := Fin.ext (by omega)
      rw [if_pos h0, this, Cert.KernelIdeal.Ours.stack_first]
      rfl
    · by_cases h1 : j.val - 1 < 14
      · have e : stack (F := Ideal) Y j = winner Y (j.val - 1) := by
          refine Eq.trans (congrArg _ (Fin.ext ?_)) (Cert.KernelIdeal.Ours.stack_mid Y ⟨j.val - 1, h1⟩)
          show j.val = j.val - 1 + 1
          omega
        rw [if_neg h0, dif_pos h1, e]
        exact hmid ⟨j.val - 1, h1⟩
      · have : j = 15 := Fin.ext (by have := j.isLt; show j.val = 15; omega)
        rw [if_neg h0, dif_neg h1, this, Cert.KernelIdeal.Ours.stack_last]
        rfl
  rw [joined_at, hst]

/-- The sixteen words of a row are distinct. -/
theorem words_injective (y : FVec Ideal Cert.ReferenceIdeal.S16x2046 .f32) (b : Fin 16) : Function.Injective (words y b) := by
  have hval : ∀ i : Fin 16, (words y b i).toInt = if i.val < 1 then 0
      else if h : i.val - 1 < 14 then ((places y b ⟨i.val - 1, by omega⟩).val : ℤ) + 1 else 2047 := by
    intro i
    unfold words
    split
    · rfl
    · split
      · rw [show (1#32 : BitVec 32) = BitVec.ofNat 32 1 from rfl, ← BitVec.ofNat_add, Cert.KernelIdeal.Ours.toInt_small _ (by omega)]
        push_cast
        rfl
      · rfl
  intro i j hij
  have h := congrArg BitVec.toInt hij
  rw [hval, hval] at h
  have hi := i.isLt
  have hj := j.isLt
  by_cases i0 : i.val < 1
  · by_cases j0 : j.val < 1
    · exact Fin.ext (by omega)
    · by_cases j1 : j.val - 1 < 14
      · rw [if_pos i0, if_neg j0, dif_pos j1] at h; omega
      · rw [if_pos i0, if_neg j0, dif_neg j1] at h; omega
  · by_cases i1 : i.val - 1 < 14
    · have hp := (places y b ⟨i.val - 1, by omega⟩).isLt
      by_cases j0 : j.val < 1
      · rw [if_neg i0, dif_pos i1, if_pos j0] at h; omega
      · by_cases j1 : j.val - 1 < 14
        · rw [if_neg i0, dif_pos i1, if_neg j0, dif_pos j1] at h
          have e : places y b ⟨i.val - 1, by omega⟩ = places y b ⟨j.val - 1, by omega⟩ := Fin.ext (by omega)
          have := congrArg Fin.val (Cert.ReferenceIdeal.Ours.places_injective y b e)
          simp only at this
          exact Fin.ext (by omega)
        · rw [if_neg i0, dif_pos i1, if_neg j0, dif_neg j1] at h; omega
    · by_cases j0 : j.val < 1
      · rw [if_neg i0, dif_neg i1, if_pos j0] at h; omega
      · by_cases j1 : j.val - 1 < 14
        · have hp := (places y b ⟨j.val - 1, by omega⟩).isLt
          rw [if_neg i0, dif_neg i1, if_neg j0, dif_pos j1] at h; omega
        · exact Fin.ext (by omega)

/-- The kernel's output from its scores is the reference's from its own. -/
theorem Agree.lastOut_eq [Cert.ReferenceIdeal.Facts] (h : Agree Y y) :
    Cert.KernelIdeal.Ours.lastOut (F := Ideal) Y = Cert.ReferenceIdeal.Ours.pickR (F := Ideal) y := by
  funext j
  obtain ⟨b, r, rfl⟩ : ∃ (b r : Fin 16), j = ix2 b r := ⟨j 0, j 1, eq_ix2 j⟩
  have hw : (fun i => joined (stack (F := Ideal) Y) (ix2 b i)) = words y b := funext fun i => h.words_eq b i
  rw [Cert.ReferenceIdeal.Ours.pickR_at, Cert.KernelIdeal.Ours.lastOut,
    Cert.KernelIdeal.Ours.sorted_eq _ b r (by rw [hw]; exact words_injective y b), hw, h.words_eq]
  rfl

end Cert.Ours
-- ==== Proof.Scores.lean ====
/-
  The kernel's scores and the reference's scores agree.
-/
module

public import proofs.«01_k».proof.Proof.ScoreK
public import proofs.«01_k».proof.Proof.ScoreR
public import proofs.«01_k».proof.Proof.Blocks
public import proofs.«01_k».proof.Proof.HostVals
public import proofs.«01_k».proof.Proof.Weights
public import proofs.«01_k».proof.Proof.NoiseBound
public import proofs.«01_k».proof.Proof.Select

@[expose] public section

noncomputable section

namespace Cert.KernelIdeal.Ours

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- One score of a frame from its middle features `x`, its embedding `e`, the weights, the noise `g`. -/
def scoreOf (a9 : Vec Ideal S1025x256 .f32) (a10 : Vec Ideal S256 .f32) (a11 : Vec Ideal S256x1 .f32)
    (a12 : Vec Ideal S1 .f32) (x e : Fin 256 → EReal) (g : EReal) : EReal :=
  (∑ i : Fin 256,
    max (((∑ j : Fin 256, x j * (a9 (ix2 (⟨j.val, by omega⟩ : Fin 1025) i) + a9 (ix2 (⟨512 + j.val, by omega⟩ : Fin 1025) i) : EReal))
        + (∑ j : Fin 256, x j * e j * (a9 (ix2 (⟨768 + j.val, by omega⟩ : Fin 1025) i) + a9 (ix2 (⟨1024, by omega⟩ : Fin 1025) i) : EReal))
        + (∑ j : Fin 256, e j * (a9 (ix2 (⟨256 + j.val, by omega⟩ : Fin 1025) i) - a9 (ix2 (⟨512 + j.val, by omega⟩ : Fin 1025) i) : EReal)))
        + a10 (ix1 i)) (0 : EReal) * a11 (ix2 i 0)) + g + a12 (ix1 0)

/-- One middle feature of a frame. -/
def midOf (a0 : Vec Ideal S16x2048x256 .f32) (a1 : Vec Ideal S16x2 .f32) (a2 : Vec Ideal S2x512 .f32)
    (a3 : Vec Ideal S512 .f32) (a4 : Vec Ideal S512x256 .f32) (a5 : Vec Ideal S256 .f32) (a6 : Vec Ideal S512x256 .f32)
    (a7 : Vec Ideal S256 .f32) (b : Fin 16) (p : Fin 2048) (j : Fin 256) : EReal :=
  (∑ l : Fin 256, (a0 (ix3 b p l) * a6 (ix2 (⟨l.val, by omega⟩ : Fin 512) j) : EReal))
    + ((∑ k : Fin 256,
          ((∑ l : Fin 512, max ((∑ u : Fin 2, (a1 (ix2 b u) * a2 (ix2 u l) : EReal)) + a3 (ix1 l)) (0 : EReal) * a4 (ix2 l k))
            + a5 (ix1 k)) * a6 (ix2 (⟨256 + k.val, by omega⟩ : Fin 512) j)) + a7 (ix1 j))

variable (a0 : Vec Ideal S16x2048x256 .f32) (h0 : m (c, main_arg0) = a0) (a1 : Vec Ideal S16x2 .f32) (h1 : m (c, main_arg1) = a1)
  (a2 : Vec Ideal S2x512 .f32) (h2 : m (c, main_arg2) = a2) (a3 : Vec Ideal S512 .f32) (h3 : m (c, main_arg3) = a3)
  (a4 : Vec Ideal S512x256 .f32) (h4 : m (c, main_arg4) = a4) (a5 : Vec Ideal S256 .f32) (h5 : m (c, main_arg5) = a5)
  (a6 : Vec Ideal S512x256 .f32) (h6 : m (c, main_arg6) = a6) (a7 : Vec Ideal S256 .f32) (h7 : m (c, main_arg7) = a7)
  (a8 : Vec Ideal S2046x256 .f32) (h8 : m (c, main_arg8) = a8) (a9 : Vec Ideal S1025x256 .f32) (h9 : m (c, main_arg9) = a9)
  (a10 : Vec Ideal S256 .f32) (h10 : m (c, main_arg10) = a10) (a11 : Vec Ideal S256x1 .f32) (h11 : m (c, main_arg11) = a11)
  (a12 : Vec Ideal S1 .f32) (h12 : m (c, main_arg12) = a12)

include h1 h2 h3 h4 h5 h6 h7 in
/-- The conditioning vector the kernel keeps. -/
theorem condAt_at (b : Fin 16) (j : Fin 256) : condAt m c (ix2 b j)
    = ((∑ k : Fin 256,
          ((∑ l : Fin 512, max ((∑ u : Fin 2, (a1 (ix2 b u) * a2 (ix2 u l) : EReal)) + a3 (ix1 l)) (0 : EReal) * a4 (ix2 l k))
            + a5 (ix1 k)) * a6 (ix2 (⟨256 + k.val, by omega⟩ : Fin 512) j)) + a7 (ix1 j) : EReal) := by
  obtain ⟨b0, b1, b2, b3, b4, b5, b6, -⟩ := blks m c t0_0
  obtain ⟨r3, r5, r7, -⟩ := V_rows m c a3 a5 a7 _ _ h3 h5 h7 rfl rfl
  have e1 : V m c main_arg1 = a1 := (V_main_arg1 m c).trans h1
  have e2 : V m c main_arg2 = a2 := (V_main_arg2 m c).trans h2
  have e4 : V m c main_arg4 = a4 := (V_main_arg4 m c).trans h4
  unfold condAt
  rw [cond_at]
  simp only [b0, b1, b2, b3, b4, b5, b6, e1, e2, e4, r3, r5, r7, V_v15 m c a6 h6]

/-- A column belongs to one point's slice. -/
theorem scores_point (b : Fin 16) (p : Fin 2048) : ∃ (t : Fin cfg0.N) (q : Fin 256),
    256 * t.val + q.val = p.val ∧ scores m c (ix2 b p) = slabAt m c t (ix2 b q) :=
  ⟨pointOf (ix2 b p), ⟨p.val % 256, Nat.mod_lt _ (by decide)⟩, Nat.div_add_mod p.val 256, rfl⟩

include h0 h1 h2 h3 h4 h5 h6 h7 h9 h10 h11 h12 in
/-- The kernel's score of a column. -/
theorem scores_at (b : Fin 16) (p : Fin 2048) : scores m c (ix2 b p)
    = scoreOf a9 a10 a11 a12 (midOf a0 a1 a2 a3 a4 a5 a6 a7 b p) (fun j => (V m c main_v25 : Vec Ideal S2048x256 .f32) (ix2 p j))
        ((V m c main_v24 : Vec Ideal S16x2048 .f32) (ix2 b p)) := by
  obtain ⟨t, q, hp, hs⟩ := scores_point m c b p
  obtain ⟨-, -, -, -, -, -, -, b7, b11, b12, b13, b14, b15, b16⟩ := blks m c t
  obtain ⟨-, -, -, r12, r10⟩ := V_rows m c _ _ _ a10 a12 rfl rfl rfl h10 h12
  have e0 : V m c main_arg0 = a0 := (V_main_arg0 m c).trans h0
  have e11 : V m c main_arg11 = a11 := (V_main_arg11 m c).trans h11
  rw [hs]
  unfold slabAt
  rw [slab_at]
  unfold scoreOf midOf
  simp only [b7, b11, b12, b13, b14, b15, b16, e0, e11, r10, r12, V_v14 m c a6 h6, V_v6 m c a9 h9, V_v12 m c a9 h9, V_v13 m c a9 h9,
    condAt_at m c a1 h1 a2 h2 a3 h3 a4 h4 a5 h5 a6 h6 a7 h7,
    blk8 m c t b q _ p hp, blk9 m c t q _ p hp, blk10 m c t b q p hp]

end Cert.KernelIdeal.Ours
-- ==== Proof.Agree.lean ====
/-
  On finite arguments the kernel's scores are the reference's, bordered by two columns of `-∞`.
-/
module

public import proofs.«01_k».proof.Proof.Scores

@[expose] public section

noncomputable section

namespace Cert.Ours

open Idealize.ShloMosaic Idealize.ShloMosaic.TcCoe Idealize.SL.Sem
open Cert.KernelIdeal Cert.KernelIdeal.Gen Cert.KernelIdeal.Ours Cert.ReferenceIdeal.Ours

variable (m : (ℓ : Loc nD τ sig) → Buf (Elt Ideal) ℓ) (c : Dev nD)

variable (a0 : Vec Ideal S16x2048x256 .f32) (h0 : m (c, main_arg0) = a0) (a1 : Vec Ideal S16x2 .f32) (h1 : m (c, main_arg1) = a1)
  (a2 : Vec Ideal S2x512 .f32) (h2 : m (c, main_arg2) = a2) (a3 : Vec Ideal S512 .f32) (h3 : m (c, main_arg3) = a3)
  (a4 : Vec Ideal S512x256 .f32) (h4 : m (c, main_arg4) = a4) (a5 : Vec Ideal S256 .f32) (h5 : m (c, main_arg5) = a5)
  (a6 : Vec Ideal S512x256 .f32) (h6 : m (c, main_arg6) = a6) (a7 : Vec Ideal S256 .f32) (h7 : m (c, main_arg7) = a7)
  (a8 : Vec Ideal S2046x256 .f32) (h8 : m (c, main_arg8) = a8) (a9 : Vec Ideal S1025x256 .f32) (h9 : m (c, main_arg9) = a9)
  (a10 : Vec Ideal S256 .f32) (h10 : m (c, main_arg10) = a10) (a11 : Vec Ideal S256x1 .f32) (h11 : m (c, main_arg11) = a11)
  (a12 : Vec Ideal S1 .f32) (h12 : m (c, main_arg12) = a12)

variable (f0 : ∀ i, IsReal (a0 i)) (f1 : ∀ i, IsReal (a1 i)) (f2 : ∀ i, IsReal (a2 i)) (f3 : ∀ i, IsReal (a3 i))
  (f4 : ∀ i, IsReal (a4 i)) (f5 : ∀ i, IsReal (a5 i)) (f6 : ∀ i, IsReal (a6 i)) (f7 : ∀ i, IsReal (a7 i))
  (f8 : ∀ i, IsReal (a8 i)) (f9 : ∀ i, IsReal (a9 i)) (f10 : ∀ i, IsReal (a10 i)) (f11 : ∀ i, IsReal (a11 i))
  (f12 : ∀ i, IsReal (a12 i))

include f0 f1 f2 f3 f4 f5 f6 f7 in
/-- The middle features are real numbers. -/
theorem midOf_real (b : Fin 16) (p : Fin 2048) (j : Fin 256) : IsReal (midOf a0 a1 a2 a3 a4 a5 a6 a7 b p j) :=
  (IsReal.sum fun _ => (f0 _).mul (f6 _)).add
    ((IsReal.sum fun _ => ((IsReal.sum fun _ =>
      ((((IsReal.sum fun _ => (f1 _).mul (f2 _)).add (f3 _)).max IsReal.zero).mul (f4 _))).add (f5 _)).mul (f6 _)).add (f7 _))

variable [Cert.ReferenceIdeal.Facts]

/-- The reference's middle features are the kernel's, one column on. -/
theorem midR_eq (b : Fin 16) (n : Fin 2046) (j : Fin 256) :
    midR (F := Ideal) a0 (condR (F := Ideal) a1 a2 a3 a4 a5) a6 a7 (ix3 b n j)
      = midOf a0 a1 a2 a3 a4 a5 a6 a7 b (⟨n.val + 1, by omega⟩ : Fin 2048) j := by
  have hn : (⟨1 + n.val, by omega⟩ : Fin 2048) = ⟨n.val + 1, by omega⟩ := Fin.ext (Nat.add_comm 1 n.val)
  rw [midR_at]
  simp only [condR_at, hn]
  unfold midOf
  rw [add_assoc]

include f9 in
/-- One score, from folded weights and from the five pieces. -/
theorem scoreOf_eq (x e : Cert.ReferenceIdeal.S16x2046x256.Idx → EReal) (b : Fin 16) (n : Fin 2046) (g : EReal)
    (hx : ∀ j : Fin 256, IsReal (x (ix3 b n j))) (he : ∀ j : Fin 256, IsReal (e (ix3 b n j))) :
    scoreOf a9 a10 a11 a12 (fun j => x (ix3 b n j)) (fun j => e (ix3 b n j)) g
      = (scoreR (F := Ideal) x e a9 a10 a11 a12 (ix2 b n) : EReal) + g := by
  rw [scoreR_at]
  unfold scoreOf
  rw [add_right_comm]
  refine congrArg (fun s : EReal => s + a12 (ix1 0) + g) (Finset.sum_congr rfl fun i _ => ?_)
  exact congrArg (fun s : EReal => max (s + a10 (ix1 i)) 0 * a11 (ix2 i 0))
    (fold_weights hx he (fun _ => f9 _) (fun _ => f9 _) (fun _ => f9 _) (fun _ => f9 _) (f9 _))

include f9 f10 f11 f12 in
/-- The reference's score is a real number. -/
theorem scoreR_real (x e : Cert.ReferenceIdeal.S16x2046x256.Idx → EReal) (b : Fin 16) (n : Fin 2046)
    (hx : ∀ j : Fin 256, IsReal (x (ix3 b n j))) (he : ∀ j : Fin 256, IsReal (e (ix3 b n j))) :
    IsReal (scoreR (F := Ideal) x e a9 a10 a11 a12 (ix2 b n)) := by
  rw [scoreR_at]
  exact (IsReal.sum fun i => ((IsReal.add ((IsReal.sum fun j => (hx j).mul (f9 _)).add
    ((IsReal.sum fun j => (he j).mul (f9 _)).add ((IsReal.sum fun j => ((hx j).sub (he j)).mul (f9 _)).add
      ((IsReal.sum fun j => ((hx j).mul (he j)).mul (f9 _)).add
        ((IsReal.sum fun j => (hx j).mul (he j)).mul (f9 _)))))) (f10 _)).max IsReal.zero).mul (f11 _)).add (f12 _)

include h0 h1 h2 h3 h4 h5 h6 h7 h8 h9 h10 h11 h12 f0 f1 f2 f3 f4 f5 f6 f7 f8 f9 f10 f11 f12 in
/-- The two arrays of noisy scores agree. -/
theorem agree : Agree (scores m c)
    (addf (scoreR (F := Ideal) (midR (F := Ideal) a0 (condR (F := Ideal) a1 a2 a3 a4 a5) a6 a7) (embR (F := Ideal) a8) a9 a10 a11 a12)
      (noiseK m c)) := by
  have hs := scores_at m c a0 h0 a1 h1 a2 h2 a3 h3 a4 h4 a5 h5 a6 h6 a7 h7 a9 h9 a10 h10 a11 h11 a12 h12
  have hm : ∀ (b : Fin 16) (n : Fin 2046) (j : Fin 256),
      IsReal (midR (F := Ideal) a0 (condR (F := Ideal) a1 a2 a3 a4 a5) a6 a7 (ix3 b n j)) := fun b n j => by
    rw [midR_eq]
    exact midOf_real a0 a1 a2 a3 a4 a5 a6 a7 f0 f1 f2 f3 f4 f5 f6 f7 _ _ _
  have he : ∀ (b : Fin 16) (n : Fin 2046) (j : Fin 256), IsReal (embR (F := Ideal) a8 (ix3 b n j)) := fun b n j => by
    rw [embR_at]
    exact f8 _
  refine ⟨fun b => ?_, fun b => ?_, fun b n => ?_, fun b n => ?_⟩
  · rw [hs, V_v24, dif_neg (by simp)]
    unfold scoreOf
    rw [EReal.add_bot, EReal.bot_add]
  · rw [hs, V_v24, dif_neg (by simp)]
    unfold scoreOf
    rw [EReal.add_bot, EReal.bot_add]
  · rw [hs, V_v24, dif_pos ⟨by simp, by simp⟩]
    have hx : midOf a0 a1 a2 a3 a4 a5 a6 a7 b (⟨n.val + 1, by omega⟩ : Fin 2048)
        = fun j => midR (F := Ideal) a0 (condR (F := Ideal) a1 a2 a3 a4 a5) a6 a7 (ix3 b n j) :=
      funext fun j => (midR_eq a0 a1 a2 a3 a4 a5 a6 a7 b n j).symm
    have hy : (fun j : Fin 256 => (V m c main_v25 : Vec Ideal S2048x256 .f32) (ix2 (⟨n.val + 1, by omega⟩ : Fin 2048) j))
        = fun j => embR (F := Ideal) a8 (ix3 b n j) := funext fun j => by
      rw [V_v25 m c a8 h8, dif_pos ⟨by simp, by simp⟩, embR_at]
      rfl
    rw [hx, hy]
    exact scoreOf_eq a9 a10 a11 a12 f9 _ _ b n _ (hm b n) (he b n)
  · intro hb
    rcases EReal.add_eq_bot_iff.1 hb with hb | hb
    · exact (scoreR_real a9 a10 a11 a12 f9 f10 f11 f12 _ _ b n (hm b n) (he b n)).ne_bot hb
    · exact noise_ne_bot _ _ hb

end Cert.Ours
-- ==== Proof.Value.lean ====
/-
  From equal finite arguments the reference ends with what the kernel ends with.
-/
module

public import proofs.«01_k».proof.Proof.Agree
public import proofs.«01_k».proof.Proof.RefRun

@[expose] public section

noncomputable section

namespace Cert.Ours

open Idealize.ShloMosaic Idealize.ShloMosaic.TcCoe Idealize.SL.Sem Idealize.ShloMosaic.StableHlo
open Cert.ReferenceIdeal.Ours (keyR)

variable [Cert.ReferenceIdeal.Facts]

set_option maxHeartbeats 4000000 in
set_option maxRecDepth 100000 in
/-- The kernel's program draws its noise from the reference's key. -/
theorem key_eq (V : Valuation Cert.KernelIdeal.τ Cert.KernelIdeal.sig (Elt Ideal)) :
    after Cert.KernelIdeal.Gen.hostOps0 V (Proc.devRef .tc Cert.KernelIdeal.main_v22) = keyR (F := Ideal) := by
  unfold Cert.KernelIdeal.Gen.hostOps0
  after_results_simp
  rfl

open Cert.KernelIdeal in
/-- The reference's result, from the kernel's memory. -/
theorem result_eq (m : (ℓ : Loc nD τ sig) → Buf (Elt Ideal) ℓ) (c : Dev nD)
    (W : Valuation Cert.ReferenceIdeal.τ Cert.ReferenceIdeal.sig (Elt Ideal))
    [Cert.Pre_finite.Facts]
    (hpre : Cert.Pre_finite.fn (F := Ideal) (m (c, main_arg0)) (m (c, main_arg1)) (m (c, main_arg2)) (m (c, main_arg3))
      (m (c, main_arg4)) (m (c, main_arg5)) (m (c, main_arg6)) (m (c, main_arg7)) (m (c, main_arg8)) (m (c, main_arg9))
      (m (c, main_arg10)) (m (c, main_arg11)) (m (c, main_arg12)) = fun _ => 1#1)
    (h0 : W (Proc.devRef .tc Cert.ReferenceIdeal.main_arg0) = m (c, main_arg0))
    (h1 : W (Proc.devRef .tc Cert.ReferenceIdeal.main_arg1) = m (c, main_arg1))
    (h2 : W (Proc.devRef .tc Cert.ReferenceIdeal.main_arg2) = m (c, main_arg2))
    (h3 : W (Proc.devRef .tc Cert.ReferenceIdeal.main_arg3) = m (c, main_arg3))
    (h4 : W (Proc.devRef .tc Cert.ReferenceIdeal.main_arg4) = m (c, main_arg4))
    (h5 : W (Proc.devRef .tc Cert.ReferenceIdeal.main_arg5) = m (c, main_arg5))
    (h6 : W (Proc.devRef .tc Cert.ReferenceIdeal.main_arg6) = m (c, main_arg6))
    (h7 : W (Proc.devRef .tc Cert.ReferenceIdeal.main_arg7) = m (c, main_arg7))
    (h8 : W (Proc.devRef .tc Cert.ReferenceIdeal.main_arg8) = m (c, main_arg8))
    (h9 : W (Proc.devRef .tc Cert.ReferenceIdeal.main_arg9) = m (c, main_arg9))
    (h10 : W (Proc.devRef .tc Cert.ReferenceIdeal.main_arg10) = m (c, main_arg10))
    (h11 : W (Proc.devRef .tc Cert.ReferenceIdeal.main_arg11) = m (c, main_arg11))
    (h12 : W (Proc.devRef .tc Cert.ReferenceIdeal.main_arg12) = m (c, main_arg12)) :
    after Cert.ReferenceIdeal.Ours.mainOps.1 W (Proc.devRef .tc Cert.ReferenceIdeal.main_v53)
      = Cert.KernelIdeal.Ours.lastOut (F := Ideal) (Cert.KernelIdeal.Ours.scores m c) := by
  obtain ⟨W', hk, hv⟩ := Cert.ReferenceIdeal.Ours.value (F := Ideal) W
  obtain ⟨f0, f1, f2, f3, f4, f5, f6, f7, f8, f9, f10, f11, f12⟩ := finite_args _ _ _ _ _ _ _ _ _ _ _ _ _ hpre
  have hn := noise_eq (F := Ideal) W' (after Cert.KernelIdeal.Gen.hostOps0 fun b => m (c, b)) (keyR (F := Ideal)) hk (key_eq _)
  have ha := agree m c _ rfl _ rfl _ rfl _ rfl _ rfl _ rfl _ rfl _ rfl _ rfl _ rfl _ rfl _ rfl _ rfl
    f0 f1 f2 f3 f4 f5 f6 f7 f8 f9 f10 f11 f12
  rw [hv, ha.lastOut_eq, hn, h0, h1, h2, h3, h4, h5, h6, h7, h8, h9, h10, h11, h12]
  rfl

end Cert.Ours
-- ==== Proof.lean ====
/-
  The certificate: both kernel programs and the reference run and keep their arguments, the idealized kernel is
  the kernel's own program, and on finite arguments the kernel ends with the reference's result.
-/
module

public import proofs.«01_k».proof.Proof.KernelEnd
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.KernelRun
public import proofs.«01_k».proof.Proof.RefFrame
public import proofs.«01_k».proof.Proof.Value
public import Idealize.ShloMosaic.Init

@[expose] public section

noncomputable section

namespace Cert.Proof

open Idealize.ShloMosaic Idealize.SL.Sem

/-- On finite arguments the two programs end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Ours.finiteFacts) := by
  letI := Cert.ReferenceIdeal.Gen.facts
  letI := Cert.Ours.finiteFacts
  intro m g m' g' hpre hargs
  refine ⟨fun c => Cert.KernelIdeal.Ours.lastOut (F := Ideal) (Cert.KernelIdeal.Ours.scores m c),
    Cert.KernelIdeal.Ours.run_value m g, ?_⟩
  refine (θ_run Cert.ReferenceIdeal.defs _ _).mono (fun r h c => ⟨?_, h.2.1 c⟩)
    (θ_run_and (Cert.ReferenceIdeal.Ours.run m' g') (Cert.ReferenceIdeal.Ours.frame_zero m' g'))
  obtain ⟨h0, h1, h2, h3, h4, h5, h6, h7, h8, h9, h10, h11, h12⟩ := hargs c
  exact (h.1 c Cert.ReferenceIdeal.main_v53).trans
    (Cert.Ours.result_eq m c _ (hpre c) h0 h1 h2 h3 h4 h5 h6 h7 h8 h9 h10 h11 h12)

theorem claim : Cert.Claim :=
  ⟨Cert.Kernel.Gen.facts, Cert.KernelIdeal.Gen.facts, Cert.ReferenceIdeal.Gen.facts, Cert.Ours.finiteFacts,
    fun m ρ _ => Cert.Kernel.Ours.frame_zero m ρ,
    fun m ρ _ => Cert.KernelIdeal.Ours.frame_zero m ρ,
    fun m ρ _ => Cert.KernelIdeal.Ours.frame_zero m ρ,
    fun m ρ _ => letI := Cert.ReferenceIdeal.Gen.facts; Cert.ReferenceIdeal.Ours.frame_zero m ρ,
    fun m ρ _ => letI := Cert.ReferenceIdeal.Gen.facts; Cert.ReferenceIdeal.Ours.frame_zero m ρ,
    trivial,
    algebraic⟩

end Cert.Proof

end
